-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_v4_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x7168 : Shape := ⟨3, ![2, 128, 7168]⟩
abbrev S18432x7168 : Shape := ⟨2, ![18432, 7168]⟩
abbrev S18432 : Shape := ⟨1, ![18432]⟩
abbrev S2x128x18432 : Shape := ⟨3, ![2, 128, 18432]⟩
abbrev S256x7168 : Shape := ⟨2, ![256, 7168]⟩
abbrev S1x18432 : Shape := ⟨2, ![1, 18432]⟩
abbrev S256x18432 : Shape := ⟨2, ![256, 18432]⟩
abbrev S1x7168 : Shape := ⟨2, ![1, 7168]⟩
abbrev S256x1 : Shape := ⟨2, ![256, 1]⟩
abbrev S512x7168 : Shape := ⟨2, ![512, 7168]⟩
abbrev S1x512 : Shape := ⟨2, ![1, 512]⟩
abbrev S256x512 : Shape := ⟨2, ![256, 512]⟩
abbrev S36x256x512 : Shape := ⟨3, ![36, 256, 512]⟩
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S1x256x512 : Shape := ⟨3, ![1, 256, 512]⟩

abbrev nBuf : Space → Nat
  | .hbm => 15
  | .vmem => 20
  | .smem => 0
  | _ => 0

abbrev bufTy : (tb : Table) → Fin (tcTables nBuf tb) → BufTy
  | .hbm, ⟨0, _⟩ => ⟨S2x128x7168, .bf16⟩
  | .hbm, ⟨1, _⟩ => ⟨S18432x7168, .i8⟩
  | .hbm, ⟨2, _⟩ => ⟨S18432, .f32⟩
  | .hbm, ⟨3, _⟩ => ⟨S18432, .f32⟩
  | .hbm, ⟨4, _⟩ => ⟨S2x128x18432, .bf16⟩
  | .hbm, ⟨5, _⟩ => ⟨S256x7168, .bf16⟩
  | .hbm, ⟨6, _⟩ => ⟨S1x18432, .f32⟩
  | .hbm, ⟨7, _⟩ => ⟨S1x18432, .f32⟩
  | .hbm, ⟨8, _⟩ => ⟨S256x18432, .bf16⟩
  | .hbm, ⟨9, _⟩ => ⟨S256x18432, .bf16⟩
  | .hbm, ⟨10, _⟩ => ⟨S1x7168, .i32⟩
  | .hbm, ⟨11, _⟩ => ⟨S256x7168, .i8⟩
  | .hbm, ⟨12, _⟩ => ⟨S256x1, .f32⟩
  | .hbm, ⟨13, _⟩ => ⟨S256x18432, .i8⟩
  | .hbm, ⟨14, _⟩ => ⟨S256x1, .f32⟩
  | .local _ .vmem, ⟨0, _⟩ => ⟨S256x7168, .bf16⟩
  | .local _ .vmem, ⟨1, _⟩ => ⟨S512x7168, .i8⟩
  | .local _ .vmem, ⟨2, _⟩ => ⟨S512x7168, .i8⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S1x7168, .i32⟩
  | .local _ .vmem, ⟨12, _⟩ => ⟨S256x7168, .i8⟩
  | .local _ .vmem, ⟨13, _⟩ => ⟨S256x1, .f32⟩
  | .local _ .vmem, ⟨14, _⟩ => ⟨S256x18432, .i8⟩
  | .local _ .vmem, ⟨15, _⟩ => ⟨S256x1, .f32⟩
  | .local _ .vmem, ⟨16, _⟩ => ⟨S256x7168, .bf16⟩
  | .local _ .vmem, ⟨17, _⟩ => ⟨S256x7168, .bf16⟩
  | .local _ .vmem, ⟨18, _⟩ => ⟨S36x256x512, .bf16⟩
  | .local _ .vmem, ⟨19, _⟩ => ⟨S256x1, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![36], ![false]⟩

def k0_off1 (i : grid0.Coords) : Fin 3 → Nat :=
  let arg0 : BitVec 32 := BitVec.ofNat 32 (i 0).val
  let v28 : Index := Scalar.indexCast arg0
  let c0_17 : Index := 0#32
  let c0_18 : Index := 0#32
  ![v28.toNat, 0, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c35_i32 : BitVec 32 := 35#32
  let v41 : BitVec 1 := Scalar.cmpi .eq arg0 c35_i32
  let v42 : BitVec 32 := Scalar.extui v41
  let c0_i32_24 : BitVec 32 := 0#32
  let v43 : BitVec 1 := Scalar.cmpi .ne v42 c0_i32_24
  v43

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x7168 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x7168 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x7168 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x18432 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S2x128x7168 : Shape := ⟨3, ![2, 128, 7168]⟩
abbrev S18432x7168 : Shape := ⟨2, ![18432, 7168]⟩
abbrev S18432 : Shape := ⟨1, ![18432]⟩
abbrev S2x128x18432 : Shape := ⟨3, ![2, 128, 18432]⟩
abbrev S256x7168 : Shape := ⟨2, ![256, 7168]⟩
abbrev S1x18432 : Shape := ⟨2, ![1, 18432]⟩
abbrev S256x18432 : Shape := ⟨2, ![256, 18432]⟩
abbrev S1x7168 : Shape := ⟨2, ![1, 7168]⟩
abbrev S256x1 : Shape := ⟨2, ![256, 1]⟩
abbrev S7168 : Shape := ⟨1, ![7168]⟩
abbrev S256 : Shape := ⟨1, ![256]⟩

abbrev nBuf : Space → Nat
  | .hbm => 15
  | .vmem => 11
  | .smem => 0
  | _ => 0

abbrev bufTy : (tb : Table) → Fin (tcTables nBuf tb) → BufTy
  | .hbm, ⟨0, _⟩ => ⟨S2x128x7168, .bf16⟩
  | .hbm, ⟨1, _⟩ => ⟨S18432x7168, .i8⟩
  | .hbm, ⟨2, _⟩ => ⟨S18432, .f32⟩
  | .hbm, ⟨3, _⟩ => ⟨S18432, .f32⟩
  | .hbm, ⟨4, _⟩ => ⟨S2x128x18432, .bf16⟩
  | .hbm, ⟨5, _⟩ => ⟨S256x7168, .bf16⟩
  | .hbm, ⟨6, _⟩ => ⟨S1x18432, .f32⟩
  | .hbm, ⟨7, _⟩ => ⟨S1x18432, .f32⟩
  | .hbm, ⟨8, _⟩ => ⟨S256x18432, .bf16⟩
  | .hbm, ⟨9, _⟩ => ⟨S256x18432, .bf16⟩
  | .hbm, ⟨10, _⟩ => ⟨S1x7168, .i32⟩
  | .hbm, ⟨11, _⟩ => ⟨S256x7168, .i8⟩
  | .hbm, ⟨12, _⟩ => ⟨S256x1, .f32⟩
  | .hbm, ⟨13, _⟩ => ⟨S256x18432, .i8⟩
  | .hbm, ⟨14, _⟩ => ⟨S256x1, .f32⟩
  | .local _ .vmem, ⟨0, _⟩ => ⟨S256x7168, .bf16⟩
  | .local _ .vmem, ⟨1, _⟩ => ⟨S18432x7168, .i8⟩
  | .local _ .vmem, ⟨2, _⟩ => ⟨S1x18432, .f32⟩
  | .local _ .vmem, ⟨3, _⟩ => ⟨S1x18432, .f32⟩
  | .local _ .vmem, ⟨4, _⟩ => ⟨S256x18432, .bf16⟩
  | .local _ .vmem, ⟨5, _⟩ => ⟨S256x18432, .bf16⟩
  | .local _ .vmem, ⟨6, _⟩ => ⟨S1x7168, .i32⟩
  | .local _ .vmem, ⟨7, _⟩ => ⟨S256x7168, .i8⟩
  | .local _ .vmem, ⟨8, _⟩ => ⟨S256x1, .f32⟩
  | .local _ .vmem, ⟨9, _⟩ => ⟨S256x18432, .i8⟩
  | .local _ .vmem, ⟨10, _⟩ => ⟨S256x1, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v4_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x18432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x18432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x18432 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x7168 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x7168 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x18432 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Kernel.Runs.lean ====
/- What the runs of the kernel body share: its two branch conditions over the grid points, where its output windows are idle or written back, and the staging and scratch memrefs. -/
module

public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's first conditional, from the grid coordinates. -/
abbrev cond0_0 (i : grid0.Coords) : Prop := k0_cond1 i = 1#1
/-- It holds at the first point only. -/
theorem hcond0_0 : ∀ t : Fin cfg0.N, cond0_0 (grid0.coords t) ↔ t.val = 0 :=
  (fun t => by
    have ht : t.val < 36 := Nat.lt_of_lt_of_eq t.isLt N_0
    have e0 : (grid0.coords t 0).val = t.val / 1 % 36 := Pipeline.Grid.coords_val t 0 (by decide) rfl
    have h : cond0_0 (grid0.coords t) ↔ t.val % 36 = 0 := by
      simp only [cond0_0, k0_cond1, e0]
      word_cmp
    rw [h, Nat.mod_eq_of_lt ht]
   : ∀ t : Fin grid0.N, cond0_0 (grid0.coords t) ↔ t.val = 0)

/-- The condition of the body's second conditional, from the grid coordinates. -/
abbrev cond0_1 (i : grid0.Coords) : Prop := k0_cond2 i = 1#1
/-- It holds at the last point only. -/
theorem hcond0_1 : ∀ t : Fin cfg0.N, cond0_1 (grid0.coords t) ↔ t.val = 35 :=
  (fun t => by
    have ht : t.val < 36 := Nat.lt_of_lt_of_eq t.isLt N_0
    have e0 : (grid0.coords t 0).val = t.val / 1 % 36 := Pipeline.Grid.coords_val t 0 (by decide) rfl
    have h : cond0_1 (grid0.coords t) ↔ t.val % 36 = 35 := by
      simp only [cond0_1, k0_cond2, e0]
      word_cmp
    rw [h, Nat.mod_eq_of_lt ht]
   : ∀ t : Fin grid0.N, cond0_1 (grid0.coords t) ↔ t.val = 35)

/-- Window 0's current staging memref at point `t`, and its wholeness. -/
abbrev ms0_0 (t : Fin cfg0.N) : Memref sig .tc .vmem S256x7168 .bf16 := win0_0.stage (cfg0.slots t 0)
/-- Window 0's current staging memref is a whole buffer. -/
abbrev hs0_0 (t : Fin cfg0.N) : (ms0_0 t).IsWhole := hstage0_0 ((cfg0.slots t 0).cast nbuf0_0)
/-- Window 1's current staging memref at point `t`, and its wholeness. -/
abbrev ms0_1 (t : Fin cfg0.N) : Memref sig .tc .vmem S512x7168 .i8 := win0_1.stage (cfg0.slots t 1)
/-- Window 1's current staging memref is a whole buffer. -/
abbrev hs0_1 (t : Fin cfg0.N) : (ms0_1 t).IsWhole := hstage0_1 ((cfg0.slots t 1).cast nbuf0_1)
/-- Window 2's current staging memref at point `t`, and its wholeness. -/
abbrev ms0_2 (t : Fin cfg0.N) : Memref sig .tc .vmem S1x512 .f32 := win0_2.stage (cfg0.slots t 2)
/-- Window 2's current staging memref is a whole buffer. -/
abbrev hs0_2 (t : Fin cfg0.N) : (ms0_2 t).IsWhole := hstage0_2 ((cfg0.slots t 2).cast nbuf0_2)
/-- Window 3's current staging memref at point `t`, and its wholeness. -/
abbrev ms0_3 (t : Fin cfg0.N) : Memref sig .tc .vmem S1x512 .f32 := win0_3.stage (cfg0.slots t 3)
/-- Window 3's current staging memref is a whole buffer. -/
abbrev hs0_3 (t : Fin cfg0.N) : (ms0_3 t).IsWhole := hstage0_3 ((cfg0.slots t 3).cast nbuf0_3)
/-- Window 4's current staging memref at point `t`, and its wholeness. -/
abbrev ms0_4 (t : Fin cfg0.N) : Memref sig .tc .vmem S256x512 .bf16 := win0_4.stage (cfg0.slots t 4)
/-- Window 4's current staging memref is a whole buffer. -/
abbrev hs0_4 (t : Fin cfg0.N) : (ms0_4 t).IsWhole := hstage0_4 ((cfg0.slots t 4).cast nbuf0_4)
/-- Window 5's current staging memref at point `t`, and its wholeness. -/
abbrev ms0_5 (t : Fin cfg0.N) : Memref sig .tc .vmem S256x512 .bf16 := win0_5.stage (cfg0.slots t 5)
/-- Window 5's current staging memref is a whole buffer. -/
abbrev hs0_5 (t : Fin cfg0.N) : (ms0_5 t).IsWhole := hstage0_5 ((cfg0.slots t 5).cast nbuf0_5)
/-- Window 6's current staging memref at point `t`, and its wholeness. -/
abbrev ms0_6 (t : Fin cfg0.N) : Memref sig .tc .vmem S1x7168 .i32 := win0_6.stage (cfg0.slots t 6)
/-- Window 6's current staging memref is a whole buffer. -/
abbrev hs0_6 (t : Fin cfg0.N) : (ms0_6 t).IsWhole := hstage0_6 ((cfg0.slots t 6).cast nbuf0_6)
/-- Window 7's current staging memref at point `t`, and its wholeness. -/
abbrev ms0_7 (t : Fin cfg0.N) : Memref sig .tc .vmem S256x7168 .i8 := win0_7.stage (cfg0.slots t 7)
/-- Window 7's current staging memref is a whole buffer. -/
abbrev hs0_7 (t : Fin cfg0.N) : (ms0_7 t).IsWhole := hstage0_7 ((cfg0.slots t 7).cast nbuf0_7)
/-- Window 8's current staging memref at point `t`, and its wholeness. -/
abbrev ms0_8 (t : Fin cfg0.N) : Memref sig .tc .vmem S256x1 .f32 := win0_8.stage (cfg0.slots t 8)
/-- Window 8's current staging memref is a whole buffer. -/
abbrev hs0_8 (t : Fin cfg0.N) : (ms0_8 t).IsWhole := hstage0_8 ((cfg0.slots t 8).cast nbuf0_8)
/-- Window 9's current staging memref at point `t`, and its wholeness. -/
abbrev ms0_9 (t : Fin cfg0.N) : Memref sig .tc .vmem S256x18432 .i8 := win0_9.stage (cfg0.slots t 9)
/-- Window 9's current staging memref is a whole buffer. -/
abbrev hs0_9 (t : Fin cfg0.N) : (ms0_9 t).IsWhole := hstage0_9 ((cfg0.slots t 9).cast nbuf0_9)
/-- Window 10's current staging memref at point `t`, and its wholeness. -/
abbrev ms0_10 (t : Fin cfg0.N) : Memref sig .tc .vmem S256x1 .f32 := win0_10.stage (cfg0.slots t 10)
/-- Window 10's current staging memref is a whole buffer. -/
abbrev hs0_10 (t : Fin cfg0.N) : (ms0_10 t).IsWhole := hstage0_10 ((cfg0.slots t 10).cast nbuf0_10)
/-- Scratch operand 0: a whole scoped buffer of the kernel's own. -/
abbrev scM0_0 : Memref sig .tc .vmem S256x7168 .bf16 := Memref.whole cc0_scratch0
/-- Scratch operand 1: a whole scoped buffer of the kernel's own. -/
abbrev scM0_1 : Memref sig .tc .vmem S256x7168 .bf16 := Memref.whole cc0_scratch1
/-- Scratch operand 2: a whole scoped buffer of the kernel's own. -/
abbrev scM0_2 : Memref sig .tc .vmem S36x256x512 .bf16 := Memref.whole cc0_scratch2
/-- Scratch operand 3: a whole scoped buffer of the kernel's own. -/
abbrev scM0_3 : Memref sig .tc .vmem S256x1 .f32 := Memref.whole cc0_scratch3
/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- Output 6 is stored at the first point. -/
theorem liveAt0_6 : ∀ t : Fin cfg0.N, t.val = 0 → cfg0.idle 6 (grid0.coords t) = false := by decide +kernel
/-- Output 6 is idle at every later point. -/
theorem idleAt0_6 : ∀ t : Fin cfg0.N, t.val ≠ 0 → cfg0.idle 6 (grid0.coords t) = true := by decide +kernel
/-- Output 7 is stored at the first point. -/
theorem liveAt0_7 : ∀ t : Fin cfg0.N, t.val = 0 → cfg0.idle 7 (grid0.coords t) = false := by decide +kernel
/-- Output 7 is idle at every later point. -/
theorem idleAt0_7 : ∀ t : Fin cfg0.N, t.val ≠ 0 → cfg0.idle 7 (grid0.coords t) = true := by decide +kernel
/-- Output 8 is stored at the first point. -/
theorem liveAt0_8 : ∀ t : Fin cfg0.N, t.val = 0 → cfg0.idle 8 (grid0.coords t) = false := by decide +kernel
/-- Output 8 is idle at every later point. -/
theorem idleAt0_8 : ∀ t : Fin cfg0.N, t.val ≠ 0 → cfg0.idle 8 (grid0.coords t) = true := by decide +kernel
/-- Output 9 is stored at the last point. -/
theorem liveAt0_9 : ∀ t : Fin cfg0.N, t.val = 35 → cfg0.idle 9 (grid0.coords t) = false := by decide +kernel
/-- Output 9 is idle at every earlier point. -/
theorem idleAt0_9 : ∀ t : Fin cfg0.N, t.val ≠ 35 → cfg0.idle 9 (grid0.coords t) = true := by decide +kernel
/-- Output 10 is stored at the last point. -/
theorem liveAt0_10 : ∀ t : Fin cfg0.N, t.val = 35 → cfg0.idle 10 (grid0.coords t) = false := by decide +kernel
/-- Output 10 is idle at every earlier point. -/
theorem idleAt0_10 : ∀ t : Fin cfg0.N, t.val ≠ 35 → cfg0.idle 10 (grid0.coords t) = true := by decide +kernel
/-- Output 6 is not written back before the last point. -/
theorem noFlush0_6 : ∀ t : Fin cfg0.N, t.val ≠ 35 → (cfg0.win 6).flush t = false := by decide +kernel
/-- Output 7 is not written back before the last point. -/
theorem noFlush0_7 : ∀ t : Fin cfg0.N, t.val ≠ 35 → (cfg0.win 7).flush t = false := by decide +kernel
/-- Output 8 is not written back before the last point. -/
theorem noFlush0_8 : ∀ t : Fin cfg0.N, t.val ≠ 35 → (cfg0.win 8).flush t = false := by decide +kernel
/-- Output 9 is not written back before the last point. -/
theorem noFlush0_9 : ∀ t : Fin cfg0.N, t.val ≠ 35 → (cfg0.win 9).flush t = false := by decide +kernel
/-- Output 10 is not written back before the last point. -/
theorem noFlush0_10 : ∀ t : Fin cfg0.N, t.val ≠ 35 → (cfg0.win 10).flush t = false := by decide +kernel

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.Kernel.RunA.lean ====
/- The body at the first point: the activations are quantised and the first block of outputs computed. -/
module

public import proofs.«01_k».proof.Proof.Kernel.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point: the activations are quantised and the first block of outputs computed. The pieces each stored buffer ends with are the witness; the proof is the run of the body on whole
    memrefs, the inputs' at their contents and given back as they were. -/
noncomputable def kernelRun0_A (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    Σ' (L6 : List (View.Piece (Elt F) S256x512 .bf16)), Σ' (L7 : List (View.Piece (Elt F) S1x7168 .i32)), Σ' (L8 : List (View.Piece (Elt F) S256x7168 .i8)), Σ' (L9 : List (View.Piece (Elt F) S256x1 .f32)), Σ' (L12 : List (View.Piece (Elt F) S256x7168 .bf16)), Σ' (L13 : List (View.Piece (Elt F) S256x7168 .bf16)), Σ' (L15 : List (View.Piece (Elt F) S256x1 .f32)), { L14 : List (View.Piece (Elt F) S36x256x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg12 fullShare d) ∗ (∃ d, owns (c : Thread nD τ) arg13 fullShare d) ∗ (∃ d, owns (c : Thread nD τ) arg15 fullShare d) ∗ owns (c : Thread nD τ) arg14 fullShare x14
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg15.view.loc (c : Thread nD τ) ↦[arg15.view.set]{fullShare} arg15.view.writes (Elt F) f L15) ∗ (arg14.view.loc (c : Thread nD τ) ↦[arg14.view.set]{fullShare} arg14.view.writes (Elt F) (harg14.unread x14) L14)) -∗ K ⟨⟩))
          ⊢ wp frame (wpE (defs₀ (F := F)) Variants.none c none) E (cc0_int8_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, fun E K => ?run⟩
  case run =>
    simp only [cc0_int8_linear_eq_skeleton]; unfold cc0_int8_linear_skel
    simp only [k0_part22_eq_skeleton]; unfold k0_part22_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d12, %f12, -, H12⟩, ⟨%d13, %f13, -, H13⟩, ⟨%d15, %f15, -, H15⟩, ⟨%f14, %hf14, H14⟩, Hk⟩
    obtain rfl := harg1.eq_unread hf1; obtain rfl := harg2.eq_unread hf2; obtain rfl := harg3.eq_unread hf3; obtain rfl := harg4.eq_unread hf4; obtain rfl := harg5.eq_unread hf5; obtain rfl := harg14.eq_unread hf14
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    isplitl [H8]
    · iexists _; iexact H8
    isplitl [H9]
    · iexists _; iexact H9
    isplitl [H12]
    · iexists _; iexact H12
    isplitl [H13]
    · iexists _; iexact H13
    isplitl [H15]
    · iexists _; iexact H15
    iexact H14

end Cert.Kernel.Gen

end
-- ==== Proof.Tiles.lean ====
/- Buffers stored piece by piece: a two-dimensional array glued from column chunks, a plane of a stack of
   matrices, and loads of whole buffers. -/
module

public import Idealize.ShloMosaic.Lib.Pipeline.FrameBody
public import Idealize.ShloMosaic.Lib.Pipeline.Value
public import Idealize.ShloMosaic.Lib.Pipeline.ValueKit.Tiles
public import Idealize.ShloMosaic.Lib.ValueIdxCore

@[expose] public section

noncomputable section

namespace Cert.Tiles

open Idealize.ShloMosaic Idealize.ShloMosaic.ValueIdx

variable {Val : EltTy → Type} {e : EltTy} {α : Type}

/-- The array of `N` columns glued from chunks of `w` columns, `P n` the chunk that starts at column `n`. -/
def glue {r w N : ℕ} (hw : 0 < w) (hd : w ∣ N) (P : (n : ℕ) → n + w ≤ N → (⟨2, ![r, w]⟩ : Shape).Idx → α) :
    (⟨2, ![r, N]⟩ : Shape).Idx → α := fun y =>
  P (w * ((y 1).val / w)) (by
      have h1 : (y 1).val < N := (y 1).isLt
      obtain ⟨k, rfl⟩ := hd
      have h2 : (y 1).val / w < k := Nat.div_lt_of_lt_mul h1
      calc w * ((y 1).val / w) + w = w * ((y 1).val / w + 1) := (Nat.mul_succ _ _).symm
        _ ≤ w * k := Nat.mul_le_mul_left _ h2)
    (ix2 (y 0) ⟨(y 1).val % w, Nat.mod_lt _ hw⟩)

/-- Read at an index written as a chunk's start plus an index of the chunk, the glued array is the chunk there. -/
theorem glue_at {r w N : ℕ} (hw : 0 < w) (hd : w ∣ N) (P : (n : ℕ) → n + w ≤ N → (⟨2, ![r, w]⟩ : Shape).Idx → α)
    (n : ℕ) (h : n + w ≤ N) (hn : w ∣ n) (x : (⟨2, ![r, w]⟩ : Shape).Idx) (y : (⟨2, ![r, N]⟩ : Shape).Idx)
    (h0 : (y 0).val = (x 0).val) (h1 : (y 1).val = n + (x 1).val) : glue hw hd P y = P n h x := by
  obtain ⟨k, rfl⟩ := hn
  have hx1 : (x 1).val < w := (x 1).isLt
  have hq : (y 1).val / w = k := by
    rw [h1, Nat.mul_add_div hw, Nat.div_eq_of_lt hx1, Nat.add_zero]
  have hr : (y 1).val % w = (x 1).val := by
    rw [h1, Nat.mul_add_mod, Nat.mod_eq_of_lt hx1]
  unfold glue
  have key : ∀ (n' : ℕ) (h' : n' + w ≤ N) (x' : (⟨2, ![r, w]⟩ : Shape).Idx), n' = w * k → x' = x →
      P n' h' x' = P (w * k) h x := by
    rintro n' h' x' rfl rfl; rfl
  refine key (w * ((y 1).val / w)) _ (ix2 (y 0) ⟨(y 1).val % w, Nat.mod_lt _ hw⟩) (by rw [hq]) ?_
  rw [eq_ix2 x]
  congr 1
  · exact Fin.ext h0
  · exact Fin.ext hr

/-- One more stored chunk of a glued array agrees with it. -/
theorem allAt_cons_glue {r w N : ℕ} (hw : 0 < w) (hd : w ∣ N)
    (P : (n : ℕ) → n + w ≤ N → (⟨2, ![r, w]⟩ : Shape).Idx → Val e)
    (y : (⟨2, ![r, N]⟩ : Shape).Idx) (n : ℕ) (h : n + w ≤ N) (hn : w ∣ n)
    (inb : ∀ a, (![0, n] : Fin 2 → ℕ) a + (![r, w] : Fin 2 → ℕ) a ≤ (⟨2, ![r, N]⟩ : Shape).size a)
    (L : List (View.Piece Val ⟨2, ![r, N]⟩ e)) (hL : View.AllAt L y (glue hw hd P y)) :
    View.AllAt ((⟨Rect.unit (s := ⟨2, ![r, N]⟩) ![0, n] ![r, w] inb, P n h⟩ : View.Piece Val ⟨2, ![r, N]⟩ e) :: L) y
      (glue hw hd P y) := by
  refine View.allAt_cons _ _ _ (fun x hx => ?_) hL
  refine (glue_at hw hd P n h hn x y ?_ ?_).symm
  · rw [← hx, Rect.emb_apply]; show 0 + 1 * (x 0).val = _; omega
  · rw [← hx, Rect.emb_apply]; show n + 1 * (x 1).val = _; omega

/-- An index in a range that starts at zero with step one is itself. -/
theorem z1 (n : ℕ) : 0 + 1 * n = n := by omega

/-- A load of a whole two-dimensional buffer is its contents. -/
theorem ld_whole {r c : ℕ} (X : (⟨2, ![r, c]⟩ : Shape).Idx → Val e)
    (inb : ∀ a, (![0, 0] : Fin 2 → ℕ) a + (![r, c] : Fin 2 → ℕ) a ≤ (⟨2, ![r, c]⟩ : Shape).size a) :
    View.ld X (Rect.unit (s := ⟨2, ![r, c]⟩) ![0, 0] ![r, c] inb) = X := by
  funext x
  show X _ = X x
  congr 1
  funext a
  apply Fin.ext
  match a with
  | ⟨0, _⟩ => exact z1 _
  | ⟨1, _⟩ => exact z1 _

/-- One store over the whole of a two-dimensional buffer leaves the stored array. -/
theorem canon_whole [∀ e, Nonempty (Val e)] {r c : ℕ} (w : (⟨2, ![r, c]⟩ : Shape).Idx → Val e)
    (inb : ∀ a, (![0, 0] : Fin 2 → ℕ) a + (![r, c] : Fin 2 → ℕ) a ≤ (⟨2, ![r, c]⟩ : Shape).size a)
    (L : List (View.Piece Val ⟨2, ![r, c]⟩ e)) :
    View.canon ((⟨Rect.unit (s := ⟨2, ![r, c]⟩) ![0, 0] ![r, c] inb, w⟩ : View.Piece Val ⟨2, ![r, c]⟩ e) :: L) = w := by
  funext y
  have := View.canon_cons_emb (Val := Val) (Rect.unit (s := ⟨2, ![r, c]⟩) ![0, 0] ![r, c] inb) w L y
  rw [← this]
  congr 1
  funext a
  apply Fin.ext
  match a with
  | ⟨0, _⟩ => exact (z1 _).symm
  | ⟨1, _⟩ => exact (z1 _).symm

/-- What a buffer reads after one store over the whole of it, made last. -/
theorem read_writes_whole [∀ e, Nonempty (Val e)] {sig : RefSig} {κ : Kind} {sp : Space} {r c : ℕ}
    (v : View sig κ sp ⟨2, ![r, c]⟩ e) (f : v.ty.Contents Val) (w : (⟨2, ![r, c]⟩ : Shape).Idx → Val e)
    (inb : ∀ a, (![0, 0] : Fin 2 → ℕ) a + (![r, c] : Fin 2 → ℕ) a ≤ (⟨2, ![r, c]⟩ : Shape).size a)
    (L : List (View.Piece Val ⟨2, ![r, c]⟩ e)) :
    v.read Val (v.writes Val f ((⟨Rect.unit (s := ⟨2, ![r, c]⟩) ![0, 0] ![r, c] inb, w⟩ : View.Piece Val ⟨2, ![r, c]⟩ e) :: L)) = w := by
  rw [View.read_writes_eq_canon v f _ (fun y => ⟨_, List.mem_cons_self, ?_⟩), canon_whole]
  rw [Rect.mem_set_unit]
  intro a
  match a with
  | ⟨0, _⟩ => exact ⟨Nat.zero_le _, by have := (y 0).isLt; simpa using this⟩
  | ⟨1, _⟩ => exact ⟨Nat.zero_le _, by have := (y 1).isLt; simpa using this⟩

/-- The plane `k` of a stack of `K` matrices. -/
def plane {K r c : ℕ} (Y : (⟨3, ![K, r, c]⟩ : Shape).Idx → α) (k : Fin K) : (⟨2, ![r, c]⟩ : Shape).Idx → α :=
  fun x => Y (ix3 k (x 0) (x 1))

/-- A stack of matrices with its plane `k` stored reads the stored matrix at that plane and its old contents at
    the others. -/
theorem plane_store {sig : RefSig} {κ : Kind} {sp : Space} {K r c : ℕ}
    (v : View sig κ sp ⟨3, ![K, r, c]⟩ e) (f : v.ty.Contents Val) (w : (⟨2, ![r, c]⟩ : Shape).Idx → Val e)
    (k : Fin K) (off : Fin 3 → ℕ) (hoff : off = ![k.val, 0, 0])
    (inb : ∀ a, off a + (![1, r, c] : Fin 3 → ℕ) a ≤ (⟨3, ![K, r, c]⟩ : Shape).size a)
    (hs : (⟨2, ![r, c]⟩ : Shape).ShapeCasts ⟨3, ![1, r, c]⟩) (j : Fin K) :
    plane (v.read Val (v.writes Val f
        [(⟨Rect.unit (s := ⟨3, ![K, r, c]⟩) off ![1, r, c] inb, shapeCast ⟨3, ![1, r, c]⟩ w hs⟩ : View.Piece Val ⟨3, ![K, r, c]⟩ e)])) j
      = if j = k then w else plane (v.read Val f) j := by
  subst hoff
  funext x
  by_cases hj : j = k
  · subst hj
    rw [if_pos rfl]
    have h := View.read_writes_cons_emb (v := v) (f := f) (Rect.unit (s := ⟨3, ![K, r, c]⟩) ![j.val, 0, 0] ![1, r, c] inb)
      (shapeCast ⟨3, ![1, r, c]⟩ w hs) [] (ix3 (0 : Fin 1) (x 0) (x 1))
    rw [shapeCast_addUnit_apply (d := ![r, c])] at h
    have e1 : (Rect.unit (s := ⟨3, ![K, r, c]⟩) ![j.val, 0, 0] ![1, r, c] inb).emb (ix3 (0 : Fin 1) (x 0) (x 1))
        = ix3 j (x 0) (x 1) := by
      funext a
      apply Fin.ext
      match a with
      | ⟨0, _⟩ => show j.val + 1 * 0 = j.val; omega
      | ⟨1, _⟩ => show 0 + 1 * (x 0).val = (x 0).val; omega
      | ⟨2, _⟩ => show 0 + 1 * (x 1).val = (x 1).val; omega
    rw [e1] at h
    refine h.trans ?_
    congr 1
    funext a
    match a with
    | ⟨0, _⟩ => rfl
    | ⟨1, _⟩ => rfl
  · rw [if_neg hj]
    refine View.read_slice_write_of_not_mem (v := v) _ _ _ _ ?_
    intro hm
    obtain ⟨z, -, hz⟩ := Finset.mem_map.mp hm
    have h0 := congrArg (fun i : (⟨3, ![K, r, c]⟩ : Shape).Idx => (i 0).val) hz
    have h1 : k.val + 1 * (z 0).val = j.val := h0
    have h2 : (z 0).val < 1 := (z 0).isLt
    exact hj (Fin.ext (by omega))

/-- A load of one plane of a stack, as a matrix, is the plane. -/
theorem shapeCast_ld_plane {K r c : ℕ} (Y : (⟨3, ![K, r, c]⟩ : Shape).Idx → Val e) (k : Fin K)
    (inb : ∀ a, (![k.val, 0, 0] : Fin 3 → ℕ) a + (![1, r, c] : Fin 3 → ℕ) a ≤ (⟨3, ![K, r, c]⟩ : Shape).size a)
    (hs : (⟨3, ![1, r, c]⟩ : Shape).ShapeCasts ⟨2, ![r, c]⟩) :
    shapeCast ⟨2, ![r, c]⟩ (View.ld Y (Rect.unit (s := ⟨3, ![K, r, c]⟩) ![k.val, 0, 0] ![1, r, c] inb)) hs = plane Y k := by
  funext x
  refine (shapeCast_dropUnit_apply (d := ![r, c]) _ hs x).trans ?_
  show Y _ = Y _
  congr 1
  funext a
  apply Fin.ext
  match a with
  | ⟨0, _⟩ => show k.val + 1 * 0 = k.val; omega
  | ⟨1, _⟩ => show 0 + 1 * (x 0).val = (x 0).val; omega
  | ⟨2, _⟩ => show 0 + 1 * (x 1).val = (x 1).val; omega

end Cert.Tiles

end
-- ==== Proof.Kernel.Values.lean ====
/- The arrays the kernel body leaves in its buffers, as functions of what it reads, and the stores that build them. -/
module

public import proofs.«01_k».proof.Proof.Tiles
public import proofs.«01_k».proof.Proof.Gen.Kernel.Frame
public import proofs.«01_k».proof.Proof.Gen.Kernel.Skeleton

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Tiles Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A chunk of 1024 columns of the 256 activations' rows starts inside the array. -/
theorem inbX (n : ℕ) (h : n + 1024 ≤ 7168) : ∀ a, (![0, n] : Fin 2 → ℕ) a + S256x1024.size a ≤ S256x7168.size a := fun a => by
  match a with
  | ⟨0, _⟩ => exact Nat.le_refl _
  | ⟨1, _⟩ => exact h
/-- A chunk of 1024 columns of the row of outlier marks starts inside it. -/
theorem inbM (n : ℕ) (h : n + 1024 ≤ 7168) : ∀ a, (![0, n] : Fin 2 → ℕ) a + S1x1024.size a ≤ S1x7168.size a := fun a => by
  match a with
  | ⟨0, _⟩ => exact Nat.le_refl _
  | ⟨1, _⟩ => exact h
/-- A matrix of the stack of output blocks. -/
theorem inbY (k : ℕ) (h : k < 36) : ∀ a, (![k, 0, 0] : Fin 3 → ℕ) a + S1x256x512.size a ≤ S36x256x512.size a := fun a => by
  match a with
  | ⟨0, _⟩ => exact h
  | ⟨1, _⟩ => exact Nat.le_refl _
  | ⟨2, _⟩ => exact Nat.le_refl _

/-- The chunk of activations that starts at column `n`. -/
def xch (x1 : Vec F S256x7168 .bf16) (n : ℕ) (h : n + 1024 ≤ 7168) : Vec F S256x1024 .bf16 :=
  View.ld (S := S256x7168) x1 (Rect.unit (s := S256x7168) ![0, n] S256x1024.size (inbX n h))
/-- The chunk of outlier marks that starts at column `n`. -/
def mch (mk : Vec F S1x7168 .i32) (n : ℕ) (h : n + 1024 ≤ 7168) : Vec F S1x1024 .i32 :=
  View.ld (S := S1x7168) (Val := Elt F) (e' := .i32) mk (Rect.unit (s := S1x7168) ![0, n] S1x1024.size (inbM n h))

/-- The outlier marks of the columns. -/
def maskF (x1 : Vec F S256x7168 .bf16) : Vec F S1x7168 .i32 :=
  glue (α := BitVec 32) (by decide : 0 < 1024) (by decide) (fun n h => k0_pay6 (xch x1 n h))
/-- The outlier part of the activations. -/
def xoutF (x1 : Vec F S256x7168 .bf16) : Vec F S256x7168 .bf16 :=
  glue (α := F .bf16) (by decide : 0 < 1024) (by decide) (fun n h => k0_pay8 (xch x1 n h))
/-- The rows' largest magnitudes off the outlier columns, over the first six chunks. -/
def ax6F (x1 : Vec F S256x7168 .bf16) : FVec F S256x1 .f32 :=
  k0_pay37 (k0_pay31 (k0_pay19 (k0_pay7 (xch x1 0 (by decide))) (k0_pay10 (xch x1 1024 (by decide))) (FloatOps.ofBits .f32 0#32) (k0_pay13 (xch x1 1024 (by decide))) (xch x1 2048 (by decide)))
    (k0_pay21 (xch x1 3072 (by decide))) (xch x1 4096 (by decide))) (xch x1 5120 (by decide))
/-- The scales of the rows. -/
def xsF (x1 : Vec F S256x7168 .bf16) : Vec F S256x1 .f32 :=
  k0_pay45 (ax6F x1) (k0_pay40 (xch x1 6144 (by decide))) (k0_pay41 (xch x1 6144 (by decide))) (FloatOps.ofBits .f32 1086324736#32)
/-- The quantised activations, for given scales and marks. -/
def xcG (sc : Vec F S256x1 .f32) (mk : Vec F S1x7168 .i32) (x1 : Vec F S256x7168 .bf16) : Vec F S256x7168 .i8 :=
  glue (α := BitVec 8) (by decide : 0 < 1024) (by decide) (fun n h => k0_pay51 sc (mch mk n h) (xch x1 n h))
/-- The quantised activations as numbers, for given scales and marks. -/
def codesG (sc : Vec F S256x1 .f32) (mk : Vec F S1x7168 .i32) (x1 : Vec F S256x7168 .bf16) : Vec F S256x7168 .bf16 :=
  glue (α := F .bf16) (by decide : 0 < 1024) (by decide) (fun n h => k0_pay52 sc (mch mk n h) (xch x1 n h))
/-- The quantised activations. -/
def xcF (x1 : Vec F S256x7168 .bf16) : Vec F S256x7168 .i8 := xcG (xsF x1) (maskF x1) x1
/-- The quantised activations as numbers. -/
def codesF (x1 : Vec F S256x7168 .bf16) : Vec F S256x7168 .bf16 := codesG (xsF x1) (maskF x1) x1
/-- The quantised outputs, for given scales and a stack of output blocks. -/
def ycF (sc : Vec F S256x1 .f32) (Y : Vec F S36x256x512 .bf16) : Vec F S256x18432 .i8 :=
  glue (α := BitVec 8) (by decide : 0 < 512) (by decide) (fun n h => k0_pay2 sc
    (View.ld (S := S36x256x512) Y (Rect.unit (s := S36x256x512) ![n / 512, 0, 0] S1x256x512.size (inbY (n / 512) (by omega)))))

/-- The stores of the outlier marks, last first. -/
def L7x (x1 : Vec F S256x7168 .bf16) : List (View.Piece (Elt F) S1x7168 .i32) :=
  [⟨Rect.unit (s := S1x7168) ![0, 6144] S1x1024.size (inbM 6144 (by decide)), k0_pay43 (k0_pay41 (xch x1 6144 (by decide))) (FloatOps.ofBits .f32 1086324736#32)⟩,
   ⟨Rect.unit (s := S1x7168) ![0, 5120] S1x1024.size (inbM 5120 (by decide)), k0_pay36 (xch x1 5120 (by decide))⟩,
   ⟨Rect.unit (s := S1x7168) ![0, 4096] S1x1024.size (inbM 4096 (by decide)), k0_pay30 (xch x1 4096 (by decide))⟩,
   ⟨Rect.unit (s := S1x7168) ![0, 3072] S1x1024.size (inbM 3072 (by decide)), k0_pay25 (k0_pay21 (xch x1 3072 (by decide)))⟩,
   ⟨Rect.unit (s := S1x7168) ![0, 2048] S1x1024.size (inbM 2048 (by decide)), k0_pay18 (xch x1 2048 (by decide))⟩,
   ⟨Rect.unit (s := S1x7168) ![0, 1024] S1x1024.size (inbM 1024 (by decide)), k0_pay12 (xch x1 1024 (by decide))⟩,
   ⟨Rect.unit (s := S1x7168) ![0, 0] S1x1024.size (inbM 0 (by decide)), k0_pay6 (xch x1 0 (by decide))⟩]
/-- They cover the array, -/
theorem L7x_cover (x1 : Vec F S256x7168 .bf16) : ∀ y, ∃ p ∈ L7x (F := F) x1, y ∈ p.1.set :=
  View.cover_of_tiledL _ S1x1024.size (by sl_kernel_rfl)
/-- and build the marks as stated above. -/
theorem canon_L7x (x1 : Vec F S256x7168 .bf16) : View.canon (L7x (F := F) x1) = maskF x1 := by
  funext y
  refine View.canon_eq_of_allAt _ _ _ (L7x_cover (F := F) x1 y) ?_
  refine allAt_cons_glue (Val := Elt F) (e := .i32) (r := 1) (w := 1024) (N := 7168) (by decide) (by decide) (fun n h => k0_pay6 (xch x1 n h)) y 6144 (by decide) (by decide) _ _ ?_
  refine allAt_cons_glue (Val := Elt F) (e := .i32) (r := 1) (w := 1024) (N := 7168) (by decide) (by decide) (fun n h => k0_pay6 (xch x1 n h)) y 5120 (by decide) (by decide) _ _ ?_
  refine allAt_cons_glue (Val := Elt F) (e := .i32) (r := 1) (w := 1024) (N := 7168) (by decide) (by decide) (fun n h => k0_pay6 (xch x1 n h)) y 4096 (by decide) (by decide) _ _ ?_
  refine allAt_cons_glue (Val := Elt F) (e := .i32) (r := 1) (w := 1024) (N := 7168) (by decide) (by decide) (fun n h => k0_pay6 (xch x1 n h)) y 3072 (by decide) (by decide) _ _ ?_
  refine allAt_cons_glue (Val := Elt F) (e := .i32) (r := 1) (w := 1024) (N := 7168) (by decide) (by decide) (fun n h => k0_pay6 (xch x1 n h)) y 2048 (by decide) (by decide) _ _ ?_
  refine allAt_cons_glue (Val := Elt F) (e := .i32) (r := 1) (w := 1024) (N := 7168) (by decide) (by decide) (fun n h => k0_pay6 (xch x1 n h)) y 1024 (by decide) (by decide) _ _ ?_
  refine allAt_cons_glue (Val := Elt F) (e := .i32) (r := 1) (w := 1024) (N := 7168) (by decide) (by decide) (fun n h => k0_pay6 (xch x1 n h)) y 0 (by decide) (by decide) _ _ ?_
  exact View.allAt_nil _ _

/-- The stores of the outlier part, last first. -/
def L13x (x1 : Vec F S256x7168 .bf16) : List (View.Piece (Elt F) S256x7168 .bf16) :=
  [⟨Rect.unit (s := S256x7168) ![0, 6144] S256x1024.size (inbX 6144 (by decide)), k0_pay44 (k0_pay39 (xch x1 6144 (by decide))) (k0_pay41 (xch x1 6144 (by decide))) (FloatOps.ofBits .f32 1086324736#32)⟩,
   ⟨Rect.unit (s := S256x7168) ![0, 5120] S256x1024.size (inbX 5120 (by decide)), k0_pay38 (xch x1 5120 (by decide))⟩,
   ⟨Rect.unit (s := S256x7168) ![0, 4096] S256x1024.size (inbX 4096 (by decide)), k0_pay32 (k0_pay27 (xch x1 4096 (by decide))) (k0_pay29 (xch x1 4096 (by decide)))⟩,
   ⟨Rect.unit (s := S256x7168) ![0, 3072] S256x1024.size (inbX 3072 (by decide)), k0_pay26 (k0_pay21 (xch x1 3072 (by decide)))⟩,
   ⟨Rect.unit (s := S256x7168) ![0, 2048] S256x1024.size (inbX 2048 (by decide)), k0_pay20 (xch x1 2048 (by decide))⟩,
   ⟨Rect.unit (s := S256x7168) ![0, 1024] S256x1024.size (inbX 1024 (by decide)), k0_pay14 (k0_pay9 (xch x1 1024 (by decide))) (k0_pay11 (xch x1 1024 (by decide)))⟩,
   ⟨Rect.unit (s := S256x7168) ![0, 0] S256x1024.size (inbX 0 (by decide)), k0_pay8 (xch x1 0 (by decide))⟩]
/-- They cover the array, -/
theorem L13x_cover (x1 : Vec F S256x7168 .bf16) : ∀ y, ∃ p ∈ L13x (F := F) x1, y ∈ p.1.set :=
  View.cover_of_tiledL _ S256x1024.size (by sl_kernel_rfl)
/-- and build it as stated above. -/
theorem canon_L13x (x1 : Vec F S256x7168 .bf16) : View.canon (L13x (F := F) x1) = xoutF x1 := by
  funext y
  refine View.canon_eq_of_allAt _ _ _ (L13x_cover (F := F) x1 y) ?_
  refine allAt_cons_glue (Val := Elt F) (e := .bf16) (r := 256) (w := 1024) (N := 7168) (by decide) (by decide) (fun n h => k0_pay8 (xch x1 n h)) y 6144 (by decide) (by decide) _ _ ?_
  refine allAt_cons_glue (Val := Elt F) (e := .bf16) (r := 256) (w := 1024) (N := 7168) (by decide) (by decide) (fun n h => k0_pay8 (xch x1 n h)) y 5120 (by decide) (by decide) _ _ ?_
  refine allAt_cons_glue (Val := Elt F) (e := .bf16) (r := 256) (w := 1024) (N := 7168) (by decide) (by decide) (fun n h => k0_pay8 (xch x1 n h)) y 4096 (by decide) (by decide) _ _ ?_
  refine allAt_cons_glue (Val := Elt F) (e := .bf16) (r := 256) (w := 1024) (N := 7168) (by decide) (by decide) (fun n h => k0_pay8 (xch x1 n h)) y 3072 (by decide) (by decide) _ _ ?_
  refine allAt_cons_glue (Val := Elt F) (e := .bf16) (r := 256) (w := 1024) (N := 7168) (by decide) (by decide) (fun n h => k0_pay8 (xch x1 n h)) y 2048 (by decide) (by decide) _ _ ?_
  refine allAt_cons_glue (Val := Elt F) (e := .bf16) (r := 256) (w := 1024) (N := 7168) (by decide) (by decide) (fun n h => k0_pay8 (xch x1 n h)) y 1024 (by decide) (by decide) _ _ ?_
  refine allAt_cons_glue (Val := Elt F) (e := .bf16) (r := 256) (w := 1024) (N := 7168) (by decide) (by decide) (fun n h => k0_pay8 (xch x1 n h)) y 0 (by decide) (by decide) _ _ ?_
  exact View.allAt_nil _ _

/-- The stores of the quantised activations, last first. -/
def L8x (mk : Vec F S1x7168 .i32) (x1 : Vec F S256x7168 .bf16) : List (View.Piece (Elt F) S256x7168 .i8) :=
  [⟨Rect.unit (s := S256x7168) ![0, 6144] S256x1024.size (inbX 6144 (by decide)), k0_pay69 (xsF x1) (mch mk 6144 (by decide)) (xch x1 6144 (by decide))⟩,
   ⟨Rect.unit (s := S256x7168) ![0, 5120] S256x1024.size (inbX 5120 (by decide)), k0_pay66 (xsF x1) (k0_pay64 (mch mk 5120 (by decide))) (xch x1 5120 (by decide))⟩,
   ⟨Rect.unit (s := S256x7168) ![0, 4096] S256x1024.size (inbX 4096 (by decide)), k0_pay62 (xsF x1) (mch mk 4096 (by decide)) (xch x1 4096 (by decide))⟩,
   ⟨Rect.unit (s := S256x7168) ![0, 3072] S256x1024.size (inbX 3072 (by decide)), k0_pay59 (k0_pay56 (xsF x1) (mch mk 3072 (by decide)) (xch x1 3072 (by decide))) k0_pay57⟩,
   ⟨Rect.unit (s := S256x7168) ![0, 2048] S256x1024.size (inbX 2048 (by decide)), k0_pay54 (xsF x1) (mch mk 2048 (by decide)) (xch x1 2048 (by decide))⟩,
   ⟨Rect.unit (s := S256x7168) ![0, 1024] S256x1024.size (inbX 1024 (by decide)), k0_pay51 (xsF x1) (mch mk 1024 (by decide)) (xch x1 1024 (by decide))⟩,
   ⟨Rect.unit (s := S256x7168) ![0, 0] S256x1024.size (inbX 0 (by decide)), k0_pay48 (k0_pay46 (ax6F x1) (k0_pay40 (xch x1 6144 (by decide))) (k0_pay41 (xch x1 6144 (by decide))) (FloatOps.ofBits .f32 1086324736#32) (mch mk 0 (by decide)) (xch x1 0 (by decide)))⟩]
/-- They cover the array, -/
theorem L8x_cover (mk : Vec F S1x7168 .i32) (x1 : Vec F S256x7168 .bf16) : ∀ y, ∃ p ∈ L8x (F := F) mk x1, y ∈ p.1.set :=
  View.cover_of_tiledL _ S256x1024.size (by sl_kernel_rfl)
/-- and build it as stated above. -/
theorem canon_L8x (mk : Vec F S1x7168 .i32) (x1 : Vec F S256x7168 .bf16) : View.canon (L8x (F := F) mk x1) = xcG (xsF x1) mk x1 := by
  funext y
  refine View.canon_eq_of_allAt _ _ _ (L8x_cover (F := F) mk x1 y) ?_
  refine allAt_cons_glue (Val := Elt F) (e := .i8) (r := 256) (w := 1024) (N := 7168) (by decide) (by decide) (fun n h => k0_pay51 (xsF x1) (mch mk n h) (xch x1 n h)) y 6144 (by decide) (by decide) _ _ ?_
  refine allAt_cons_glue (Val := Elt F) (e := .i8) (r := 256) (w := 1024) (N := 7168) (by decide) (by decide) (fun n h => k0_pay51 (xsF x1) (mch mk n h) (xch x1 n h)) y 5120 (by decide) (by decide) _ _ ?_
  refine allAt_cons_glue (Val := Elt F) (e := .i8) (r := 256) (w := 1024) (N := 7168) (by decide) (by decide) (fun n h => k0_pay51 (xsF x1) (mch mk n h) (xch x1 n h)) y 4096 (by decide) (by decide) _ _ ?_
  refine allAt_cons_glue (Val := Elt F) (e := .i8) (r := 256) (w := 1024) (N := 7168) (by decide) (by decide) (fun n h => k0_pay51 (xsF x1) (mch mk n h) (xch x1 n h)) y 3072 (by decide) (by decide) _ _ ?_
  refine allAt_cons_glue (Val := Elt F) (e := .i8) (r := 256) (w := 1024) (N := 7168) (by decide) (by decide) (fun n h => k0_pay51 (xsF x1) (mch mk n h) (xch x1 n h)) y 2048 (by decide) (by decide) _ _ ?_
  refine allAt_cons_glue (Val := Elt F) (e := .i8) (r := 256) (w := 1024) (N := 7168) (by decide) (by decide) (fun n h => k0_pay51 (xsF x1) (mch mk n h) (xch x1 n h)) y 1024 (by decide) (by decide) _ _ ?_
  refine allAt_cons_glue (Val := Elt F) (e := .i8) (r := 256) (w := 1024) (N := 7168) (by decide) (by decide) (fun n h => k0_pay51 (xsF x1) (mch mk n h) (xch x1 n h)) y 0 (by decide) (by decide) _ _ ?_
  exact View.allAt_nil _ _

/-- The stores of the quantised activations as numbers, last first. -/
def L12x (mk : Vec F S1x7168 .i32) (x1 : Vec F S256x7168 .bf16) : List (View.Piece (Elt F) S256x7168 .bf16) :=
  [⟨Rect.unit (s := S256x7168) ![0, 6144] S256x1024.size (inbX 6144 (by decide)), k0_pay106 (k0_pay68 (xsF x1) (mch mk 6144 (by decide)) (xch x1 6144 (by decide)))⟩,
   ⟨Rect.unit (s := S256x7168) ![0, 5120] S256x1024.size (inbX 5120 (by decide)), k0_pay67 (xsF x1) (k0_pay64 (mch mk 5120 (by decide))) (xch x1 5120 (by decide))⟩,
   ⟨Rect.unit (s := S256x7168) ![0, 4096] S256x1024.size (inbX 4096 (by decide)), k0_pay63 (xsF x1) (mch mk 4096 (by decide)) (xch x1 4096 (by decide))⟩,
   ⟨Rect.unit (s := S256x7168) ![0, 3072] S256x1024.size (inbX 3072 (by decide)), k0_pay60 (k0_pay56 (xsF x1) (mch mk 3072 (by decide)) (xch x1 3072 (by decide))) k0_pay57⟩,
   ⟨Rect.unit (s := S256x7168) ![0, 2048] S256x1024.size (inbX 2048 (by decide)), k0_pay55 (xsF x1) (mch mk 2048 (by decide)) (xch x1 2048 (by decide))⟩,
   ⟨Rect.unit (s := S256x7168) ![0, 1024] S256x1024.size (inbX 1024 (by decide)), k0_pay52 (xsF x1) (mch mk 1024 (by decide)) (xch x1 1024 (by decide))⟩,
   ⟨Rect.unit (s := S256x7168) ![0, 0] S256x1024.size (inbX 0 (by decide)), k0_pay49 (k0_pay46 (ax6F x1) (k0_pay40 (xch x1 6144 (by decide))) (k0_pay41 (xch x1 6144 (by decide))) (FloatOps.ofBits .f32 1086324736#32) (mch mk 0 (by decide)) (xch x1 0 (by decide)))⟩]
/-- They cover the array, -/
theorem L12x_cover (mk : Vec F S1x7168 .i32) (x1 : Vec F S256x7168 .bf16) : ∀ y, ∃ p ∈ L12x (F := F) mk x1, y ∈ p.1.set :=
  View.cover_of_tiledL _ S256x1024.size (by sl_kernel_rfl)
/-- and build it as stated above. -/
theorem canon_L12x (mk : Vec F S1x7168 .i32) (x1 : Vec F S256x7168 .bf16) : View.canon (L12x (F := F) mk x1) = codesG (xsF x1) mk x1 := by
  funext y
  refine View.canon_eq_of_allAt _ _ _ (L12x_cover (F := F) mk x1 y) ?_
  refine allAt_cons_glue (Val := Elt F) (e := .bf16) (r := 256) (w := 1024) (N := 7168) (by decide) (by decide) (fun n h => k0_pay52 (xsF x1) (mch mk n h) (xch x1 n h)) y 6144 (by decide) (by decide) _ _ ?_
  refine allAt_cons_glue (Val := Elt F) (e := .bf16) (r := 256) (w := 1024) (N := 7168) (by decide) (by decide) (fun n h => k0_pay52 (xsF x1) (mch mk n h) (xch x1 n h)) y 5120 (by decide) (by decide) _ _ ?_
  refine allAt_cons_glue (Val := Elt F) (e := .bf16) (r := 256) (w := 1024) (N := 7168) (by decide) (by decide) (fun n h => k0_pay52 (xsF x1) (mch mk n h) (xch x1 n h)) y 4096 (by decide) (by decide) _ _ ?_
  refine allAt_cons_glue (Val := Elt F) (e := .bf16) (r := 256) (w := 1024) (N := 7168) (by decide) (by decide) (fun n h => k0_pay52 (xsF x1) (mch mk n h) (xch x1 n h)) y 3072 (by decide) (by decide) _ _ ?_
  refine allAt_cons_glue (Val := Elt F) (e := .bf16) (r := 256) (w := 1024) (N := 7168) (by decide) (by decide) (fun n h => k0_pay52 (xsF x1) (mch mk n h) (xch x1 n h)) y 2048 (by decide) (by decide) _ _ ?_
  refine allAt_cons_glue (Val := Elt F) (e := .bf16) (r := 256) (w := 1024) (N := 7168) (by decide) (by decide) (fun n h => k0_pay52 (xsF x1) (mch mk n h) (xch x1 n h)) y 1024 (by decide) (by decide) _ _ ?_
  refine allAt_cons_glue (Val := Elt F) (e := .bf16) (r := 256) (w := 1024) (N := 7168) (by decide) (by decide) (fun n h => k0_pay52 (xsF x1) (mch mk n h) (xch x1 n h)) y 0 (by decide) (by decide) _ _ ?_
  exact View.allAt_nil _ _

/-- The block of outputs of equal arguments. -/
theorem pay108_congr {a a' : Vec F S512x7168 .i8} {b b' : Vec F S256x7168 .bf16} {c c' : Vec F S256x7168 .bf16} {d d' : Vec F S256x1 .f32} {e e' : Vec F S1x512 .f32} {f f' : Vec F S1x512 .f32} {g g' : Vec F S256x512 .bf16}
    (ha : a = a') (hb : b = b') (hc : c = c') (hd : d = d') (he : e = e') (hf : f = f') (hg : g = g') :
    k0_pay108 a b c d e f g = k0_pay108 a' b' c' d' e' f' g' := by
  subst ha hb hc hd he hf hg; rfl

/-- A block of 512 columns of the outputs starts inside the array. -/
theorem inbC (n : ℕ) (h : n + 512 ≤ 18432) : ∀ a, (![0, n] : Fin 2 → ℕ) a + S256x512.size a ≤ S256x18432.size a := fun a => by
  match a with
  | ⟨0, _⟩ => exact Nat.le_refl _
  | ⟨1, _⟩ => exact h

/-- The stores of the quantised outputs, last first: `a` the rows' largest magnitudes, `Y` the stack of output blocks. -/
def L10x (a : Vec F S256x1 .f32) (Y : Vec F S36x256x512 .bf16) : List (View.Piece (Elt F) S256x18432 .i8) :=
  [⟨Rect.unit (s := S256x18432) ![0, 17920] S256x512.size (inbC 17920 (by decide)), k0_pay2 (k0_pay70 a) (View.ld (S := S36x256x512) Y (Rect.unit (s := S36x256x512) ![35, 0, 0] S1x256x512.size (inbY 35 (by decide))))⟩,
   ⟨Rect.unit (s := S256x18432) ![0, 17408] S256x512.size (inbC 17408 (by decide)), k0_pay105 (k0_pay70 a) (View.ld (S := S36x256x512) Y (Rect.unit (s := S36x256x512) ![34, 0, 0] S1x256x512.size (inbY 34 (by decide))))⟩,
   ⟨Rect.unit (s := S256x18432) ![0, 16896] S256x512.size (inbC 16896 (by decide)), k0_pay104 (k0_pay70 a) (View.ld (S := S36x256x512) Y (Rect.unit (s := S36x256x512) ![33, 0, 0] S1x256x512.size (inbY 33 (by decide))))⟩,
   ⟨Rect.unit (s := S256x18432) ![0, 16384] S256x512.size (inbC 16384 (by decide)), k0_pay103 (k0_pay70 a) (View.ld (S := S36x256x512) Y (Rect.unit (s := S36x256x512) ![32, 0, 0] S1x256x512.size (inbY 32 (by decide))))⟩,
   ⟨Rect.unit (s := S256x18432) ![0, 15872] S256x512.size (inbC 15872 (by decide)), k0_pay102 (k0_pay70 a) (View.ld (S := S36x256x512) Y (Rect.unit (s := S36x256x512) ![31, 0, 0] S1x256x512.size (inbY 31 (by decide))))⟩,
   ⟨Rect.unit (s := S256x18432) ![0, 15360] S256x512.size (inbC 15360 (by decide)), k0_pay101 (k0_pay70 a) (View.ld (S := S36x256x512) Y (Rect.unit (s := S36x256x512) ![30, 0, 0] S1x256x512.size (inbY 30 (by decide))))⟩,
   ⟨Rect.unit (s := S256x18432) ![0, 14848] S256x512.size (inbC 14848 (by decide)), k0_pay100 (k0_pay70 a) (View.ld (S := S36x256x512) Y (Rect.unit (s := S36x256x512) ![29, 0, 0] S1x256x512.size (inbY 29 (by decide))))⟩,
   ⟨Rect.unit (s := S256x18432) ![0, 14336] S256x512.size (inbC 14336 (by decide)), k0_pay99 (k0_pay70 a) (View.ld (S := S36x256x512) Y (Rect.unit (s := S36x256x512) ![28, 0, 0] S1x256x512.size (inbY 28 (by decide))))⟩,
   ⟨Rect.unit (s := S256x18432) ![0, 13824] S256x512.size (inbC 13824 (by decide)), k0_pay98 (k0_pay70 a) (View.ld (S := S36x256x512) Y (Rect.unit (s := S36x256x512) ![27, 0, 0] S1x256x512.size (inbY 27 (by decide))))⟩,
   ⟨Rect.unit (s := S256x18432) ![0, 13312] S256x512.size (inbC 13312 (by decide)), k0_pay97 (k0_pay70 a) (View.ld (S := S36x256x512) Y (Rect.unit (s := S36x256x512) ![26, 0, 0] S1x256x512.size (inbY 26 (by decide))))⟩,
   ⟨Rect.unit (s := S256x18432) ![0, 12800] S256x512.size (inbC 12800 (by decide)), k0_pay96 (k0_pay70 a) (View.ld (S := S36x256x512) Y (Rect.unit (s := S36x256x512) ![25, 0, 0] S1x256x512.size (inbY 25 (by decide))))⟩,
   ⟨Rect.unit (s := S256x18432) ![0, 12288] S256x512.size (inbC 12288 (by decide)), k0_pay95 (k0_pay70 a) (View.ld (S := S36x256x512) Y (Rect.unit (s := S36x256x512) ![24, 0, 0] S1x256x512.size (inbY 24 (by decide))))⟩,
   ⟨Rect.unit (s := S256x18432) ![0, 11776] S256x512.size (inbC 11776 (by decide)), k0_pay94 (k0_pay70 a) (View.ld (S := S36x256x512) Y (Rect.unit (s := S36x256x512) ![23, 0, 0] S1x256x512.size (inbY 23 (by decide))))⟩,
   ⟨Rect.unit (s := S256x18432) ![0, 11264] S256x512.size (inbC 11264 (by decide)), k0_pay93 (k0_pay70 a) (View.ld (S := S36x256x512) Y (Rect.unit (s := S36x256x512) ![22, 0, 0] S1x256x512.size (inbY 22 (by decide))))⟩,
   ⟨Rect.unit (s := S256x18432) ![0, 10752] S256x512.size (inbC 10752 (by decide)), k0_pay92 (k0_pay70 a) (View.ld (S := S36x256x512) Y (Rect.unit (s := S36x256x512) ![21, 0, 0] S1x256x512.size (inbY 21 (by decide))))⟩,
   ⟨Rect.unit (s := S256x18432) ![0, 10240] S256x512.size (inbC 10240 (by decide)), k0_pay91 (k0_pay70 a) (View.ld (S := S36x256x512) Y (Rect.unit (s := S36x256x512) ![20, 0, 0] S1x256x512.size (inbY 20 (by decide))))⟩,
   ⟨Rect.unit (s := S256x18432) ![0, 9728] S256x512.size (inbC 9728 (by decide)), k0_pay90 (k0_pay70 a) (View.ld (S := S36x256x512) Y (Rect.unit (s := S36x256x512) ![19, 0, 0] S1x256x512.size (inbY 19 (by decide))))⟩,
   ⟨Rect.unit (s := S256x18432) ![0, 9216] S256x512.size (inbC 9216 (by decide)), k0_pay89 (k0_pay70 a) (View.ld (S := S36x256x512) Y (Rect.unit (s := S36x256x512) ![18, 0, 0] S1x256x512.size (inbY 18 (by decide))))⟩,
   ⟨Rect.unit (s := S256x18432) ![0, 8704] S256x512.size (inbC 8704 (by decide)), k0_pay88 (k0_pay70 a) (View.ld (S := S36x256x512) Y (Rect.unit (s := S36x256x512) ![17, 0, 0] S1x256x512.size (inbY 17 (by decide))))⟩,
   ⟨Rect.unit (s := S256x18432) ![0, 8192] S256x512.size (inbC 8192 (by decide)), k0_pay87 (k0_pay70 a) (View.ld (S := S36x256x512) Y (Rect.unit (s := S36x256x512) ![16, 0, 0] S1x256x512.size (inbY 16 (by decide))))⟩,
   ⟨Rect.unit (s := S256x18432) ![0, 7680] S256x512.size (inbC 7680 (by decide)), k0_pay86 (k0_pay70 a) (View.ld (S := S36x256x512) Y (Rect.unit (s := S36x256x512) ![15, 0, 0] S1x256x512.size (inbY 15 (by decide))))⟩,
   ⟨Rect.unit (s := S256x18432) ![0, 7168] S256x512.size (inbC 7168 (by decide)), k0_pay85 (k0_pay70 a) (View.ld (S := S36x256x512) Y (Rect.unit (s := S36x256x512) ![14, 0, 0] S1x256x512.size (inbY 14 (by decide))))⟩,
   ⟨Rect.unit (s := S256x18432) ![0, 6656] S256x512.size (inbC 6656 (by decide)), k0_pay84 (k0_pay70 a) (View.ld (S := S36x256x512) Y (Rect.unit (s := S36x256x512) ![13, 0, 0] S1x256x512.size (inbY 13 (by decide))))⟩,
   ⟨Rect.unit (s := S256x18432) ![0, 6144] S256x512.size (inbC 6144 (by decide)), k0_pay83 (k0_pay70 a) (View.ld (S := S36x256x512) Y (Rect.unit (s := S36x256x512) ![12, 0, 0] S1x256x512.size (inbY 12 (by decide))))⟩,
   ⟨Rect.unit (s := S256x18432) ![0, 5632] S256x512.size (inbC 5632 (by decide)), k0_pay82 (k0_pay70 a) (View.ld (S := S36x256x512) Y (Rect.unit (s := S36x256x512) ![11, 0, 0] S1x256x512.size (inbY 11 (by decide))))⟩,
   ⟨Rect.unit (s := S256x18432) ![0, 5120] S256x512.size (inbC 5120 (by decide)), k0_pay81 (k0_pay70 a) (View.ld (S := S36x256x512) Y (Rect.unit (s := S36x256x512) ![10, 0, 0] S1x256x512.size (inbY 10 (by decide))))⟩,
   ⟨Rect.unit (s := S256x18432) ![0, 4608] S256x512.size (inbC 4608 (by decide)), k0_pay80 (k0_pay70 a) (View.ld (S := S36x256x512) Y (Rect.unit (s := S36x256x512) ![9, 0, 0] S1x256x512.size (inbY 9 (by decide))))⟩,
   ⟨Rect.unit (s := S256x18432) ![0, 4096] S256x512.size (inbC 4096 (by decide)), k0_pay79 (k0_pay70 a) (View.ld (S := S36x256x512) Y (Rect.unit (s := S36x256x512) ![8, 0, 0] S1x256x512.size (inbY 8 (by decide))))⟩,
   ⟨Rect.unit (s := S256x18432) ![0, 3584] S256x512.size (inbC 3584 (by decide)), k0_pay78 (k0_pay70 a) (View.ld (S := S36x256x512) Y (Rect.unit (s := S36x256x512) ![7, 0, 0] S1x256x512.size (inbY 7 (by decide))))⟩,
   ⟨Rect.unit (s := S256x18432) ![0, 3072] S256x512.size (inbC 3072 (by decide)), k0_pay77 (k0_pay70 a) (View.ld (S := S36x256x512) Y (Rect.unit (s := S36x256x512) ![6, 0, 0] S1x256x512.size (inbY 6 (by decide))))⟩,
   ⟨Rect.unit (s := S256x18432) ![0, 2560] S256x512.size (inbC 2560 (by decide)), k0_pay76 (k0_pay70 a) (View.ld (S := S36x256x512) Y (Rect.unit (s := S36x256x512) ![5, 0, 0] S1x256x512.size (inbY 5 (by decide))))⟩,
   ⟨Rect.unit (s := S256x18432) ![0, 2048] S256x512.size (inbC 2048 (by decide)), k0_pay75 (k0_pay70 a) (View.ld (S := S36x256x512) Y (Rect.unit (s := S36x256x512) ![4, 0, 0] S1x256x512.size (inbY 4 (by decide))))⟩,
   ⟨Rect.unit (s := S256x18432) ![0, 1536] S256x512.size (inbC 1536 (by decide)), k0_pay74 (k0_pay70 a) (View.ld (S := S36x256x512) Y (Rect.unit (s := S36x256x512) ![3, 0, 0] S1x256x512.size (inbY 3 (by decide))))⟩,
   ⟨Rect.unit (s := S256x18432) ![0, 1024] S256x512.size (inbC 1024 (by decide)), k0_pay73 (k0_pay70 a) (View.ld (S := S36x256x512) Y (Rect.unit (s := S36x256x512) ![2, 0, 0] S1x256x512.size (inbY 2 (by decide))))⟩,
   ⟨Rect.unit (s := S256x18432) ![0, 512] S256x512.size (inbC 512 (by decide)), k0_pay72 a (View.ld (S := S36x256x512) Y (Rect.unit (s := S36x256x512) ![1, 0, 0] S1x256x512.size (inbY 1 (by decide))))⟩,
   ⟨Rect.unit (s := S256x18432) ![0, 0] S256x512.size (inbC 0 (by decide)), k0_pay71 a (View.ld (S := S36x256x512) Y (Rect.unit (s := S36x256x512) ![0, 0, 0] S1x256x512.size (inbY 0 (by decide))))⟩]
/-- They cover the array, -/
theorem L10x_cover (a : Vec F S256x1 .f32) (Y : Vec F S36x256x512 .bf16) : ∀ y, ∃ p ∈ L10x (F := F) a Y, y ∈ p.1.set :=
  View.cover_of_tiledL _ S256x512.size (by sl_kernel_rfl)
/-- and build it as stated above. -/
theorem canon_L10x (a : Vec F S256x1 .f32) (Y : Vec F S36x256x512 .bf16) : View.canon (L10x (F := F) a Y) = ycF (k0_pay70 a) Y := by
  funext y
  refine View.canon_eq_of_allAt _ _ _ (L10x_cover (F := F) a Y y) ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 17920 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 17408 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 16896 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 16384 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 15872 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 15360 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 14848 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 14336 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 13824 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 13312 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 12800 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 12288 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 11776 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 11264 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 10752 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 10240 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 9728 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 9216 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 8704 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 8192 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 7680 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 7168 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 6656 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 6144 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 5632 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 5120 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 4608 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 4096 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 3584 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 3072 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 2560 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 2048 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 1536 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 1024 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 512 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 0 (by decide) (by decide) _ _ ?_
  exact View.allAt_nil _ _

end Cert.Kernel.Gen

end
-- ==== Proof.Kernel.ReadA.lean ====
/- What the buffers read after the body's run at the first point. -/
module

public import proofs.«01_k».proof.Proof.Kernel.RunA
public import proofs.«01_k».proof.Proof.Kernel.Values

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Tiles Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The writes that the body makes at the first point to the buffer of the outlier marks. -/
theorem runA_7 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.1 = L7x (arg1.view.read (Elt F) (harg1.unread x1)) := by
  rfl

set_option maxHeartbeats 2000000 in
/-- The writes that the body makes at the first point to the buffer of the codes of the activations. -/
theorem runA_8 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.1 = L8x (arg7.view.read (Elt F) (arg7.view.writes (Elt F) arg7.view.junk (L7x (arg1.view.read (Elt F) (harg1.unread x1))))) (arg1.view.read (Elt F) (harg1.unread x1)) := by
  rfl

set_option maxHeartbeats 2000000 in
/-- The writes that the body makes at the first point to the buffer of the scales of the activations. -/
theorem runA_9 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.1 = [⟨(Rect.unit (s := S256x1) ![0, 0] S256x1.size inb_S256x1_S256x1_0_0), xsF (arg1.view.read (Elt F) (harg1.unread x1))⟩] := by
  rfl

set_option maxHeartbeats 2000000 in
/-- The writes that the body makes at the first point to the buffer of the quantised part of the activations, in scratch. -/
theorem runA_12 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.1 = (L12x (arg7.view.read (Elt F) (arg7.view.writes (Elt F) arg7.view.junk (L7x (arg1.view.read (Elt F) (harg1.unread x1))))) (arg1.view.read (Elt F) (harg1.unread x1))) := by
  rfl

set_option maxHeartbeats 2000000 in
/-- The writes that the body makes at the first point to the buffer of the outlier part of the activations, in scratch. -/
theorem runA_13 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.2.1 = (L13x (arg1.view.read (Elt F) (harg1.unread x1))) := by
  rfl

set_option maxHeartbeats 2000000 in
/-- The writes that the body makes at the first point to the buffer of the block of outputs. -/
theorem runA_6 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).1 = [⟨(Rect.unit (s := S256x512) ![0, 0] S256x512.size inb_S256x512_S256x512_0_0), (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (arg12.view.writes (Elt F) arg12.view.junk (L12x (arg7.view.read (Elt F) (arg7.view.writes (Elt F) arg7.view.junk (L7x (arg1.view.read (Elt F) (harg1.unread x1))))) (arg1.view.read (Elt F) (harg1.unread x1))))) (Rect.unit (s := S256x7168) ![0, 0] S256x7168.size inb_S256x7168_S256x7168_0_0)) (View.ld (S := S256x7168) (Val := Elt F) (e' := .bf16) (arg13.view.read (Elt F) (arg13.view.writes (Elt F) arg13.view.junk (L13x (arg1.view.read (Elt F) (harg1.unread x1))))) (Rect.unit (s := S256x7168) ![0, 0] S256x7168.size inb_S256x7168_S256x7168_0_0)) (View.ld (S := S256x1) (Val := Elt F) (e' := .f32) (arg9.view.read (Elt F) (arg9.view.writes (Elt F) arg9.view.junk [⟨(Rect.unit (s := S256x1) ![0, 0] S256x1.size inb_S256x1_S256x1_0_0), xsF (arg1.view.read (Elt F) (harg1.unread x1))⟩])) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0)))⟩] := by
  rfl

set_option maxHeartbeats 2000000 in
/-- The writes that the body makes at the first point to the buffer of the rows' largest magnitudes, in scratch. -/
theorem runA_15 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.2.2.1 = [⟨(Rect.unit (s := S256x1) ![0, 0] S256x1.size inb_S256x1_S256x1_0_0), k0_pay1 (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (arg12.view.writes (Elt F) arg12.view.junk (L12x (arg7.view.read (Elt F) (arg7.view.writes (Elt F) arg7.view.junk (L7x (arg1.view.read (Elt F) (harg1.unread x1))))) (arg1.view.read (Elt F) (harg1.unread x1))))) (Rect.unit (s := S256x7168) ![0, 0] S256x7168.size inb_S256x7168_S256x7168_0_0)) (View.ld (S := S256x7168) (Val := Elt F) (e' := .bf16) (arg13.view.read (Elt F) (arg13.view.writes (Elt F) arg13.view.junk (L13x (arg1.view.read (Elt F) (harg1.unread x1))))) (Rect.unit (s := S256x7168) ![0, 0] S256x7168.size inb_S256x7168_S256x7168_0_0)) (View.ld (S := S256x1) (Val := Elt F) (e' := .f32) (arg9.view.read (Elt F) (arg9.view.writes (Elt F) arg9.view.junk [⟨(Rect.unit (s := S256x1) ![0, 0] S256x1.size inb_S256x1_S256x1_0_0), xsF (arg1.view.read (Elt F) (harg1.unread x1))⟩])) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))) (View.ld (S := S256x1) (Val := Elt F) (e' := .f32) (arg15.view.read (Elt F) (arg15.view.writes (Elt F) arg15.view.junk [(⟨(Rect.unit (s := S256x1) ![0, 0] S256x1.size inb_S256x1_S256x1_0_0), k0_pay107⟩ : View.Piece (Elt F) S256x1 .f32)])) (Rect.unit (s := S256x1) ![0, 0] S256x1.size inb_S256x1_S256x1_0_0))⟩, (⟨(Rect.unit (s := S256x1) ![0, 0] S256x1.size inb_S256x1_S256x1_0_0), k0_pay107⟩ : View.Piece (Elt F) S256x1 .f32)] := by
  rfl

set_option maxHeartbeats 2000000 in
/-- The writes that the body makes at the first point to the buffer of the stack of output blocks, in scratch. -/
theorem runA_14 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.2.2.2.1 = [⟨Rect.unit (s := S36x256x512) (k0_off1 i) S1x256x512.size (k0_off1_inb i), k0_pay109 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (arg12.view.writes (Elt F) arg12.view.junk (L12x (arg7.view.read (Elt F) (arg7.view.writes (Elt F) arg7.view.junk (L7x (arg1.view.read (Elt F) (harg1.unread x1))))) (arg1.view.read (Elt F) (harg1.unread x1))))) (Rect.unit (s := S256x7168) ![0, 0] S256x7168.size inb_S256x7168_S256x7168_0_0)) (View.ld (S := S256x7168) (Val := Elt F) (e' := .bf16) (arg13.view.read (Elt F) (arg13.view.writes (Elt F) arg13.view.junk (L13x (arg1.view.read (Elt F) (harg1.unread x1))))) (Rect.unit (s := S256x7168) ![0, 0] S256x7168.size inb_S256x7168_S256x7168_0_0)) (View.ld (S := S256x1) (Val := Elt F) (e' := .f32) (arg9.view.read (Elt F) (arg9.view.writes (Elt F) arg9.view.junk [⟨(Rect.unit (s := S256x1) ![0, 0] S256x1.size inb_S256x1_S256x1_0_0), xsF (arg1.view.read (Elt F) (harg1.unread x1))⟩])) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))⟩] := by
  rfl

/-- The outlier marks. -/
theorem readA_7 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (f : arg7.view.ty.Contents (Elt F)) :
    arg7.view.read (Elt F) (arg7.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.1) = maskF x1 := by
  rw [runA_7, View.read_writes_eq_canon _ _ _ (L7x_cover _), canon_L7x, harg1.read_unread]

/-- The quantised activations. -/
theorem readA_8 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (f : arg8.view.ty.Contents (Elt F)) :
    arg8.view.read (Elt F) (arg8.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.1) = xcF x1 := by
  rw [runA_8, View.read_writes_eq_canon _ _ _ (L8x_cover _ _), canon_L8x, harg1.read_unread]
  rw [View.read_writes_eq_canon arg7.view _ _ (L7x_cover _), canon_L7x]
  exact rfl

/-- The scales. -/
theorem readA_9 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (f : arg9.view.ty.Contents (Elt F)) :
    arg9.view.read (Elt F) (arg9.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.1) = xsF x1 := by
  rw [runA_9, read_writes_whole, harg1.read_unread]

/-- The quantised activations as numbers. -/
theorem readA_12 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (f : arg12.view.ty.Contents (Elt F)) :
    arg12.view.read (Elt F) (arg12.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.1) = codesF x1 := by
  rw [runA_12, View.read_writes_eq_canon _ _ _ (L12x_cover _ _), canon_L12x, harg1.read_unread]
  rw [View.read_writes_eq_canon arg7.view _ _ (L7x_cover _), canon_L7x]
  exact rfl

/-- The outlier part. -/
theorem readA_13 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (f : arg13.view.ty.Contents (Elt F)) :
    arg13.view.read (Elt F) (arg13.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.2.1) = xoutF x1 := by
  rw [runA_13, View.read_writes_eq_canon _ _ _ (L13x_cover _), canon_L13x, harg1.read_unread]

/-- The block of outputs computed at the first point, from what the body reads. -/
theorem yA_eq (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) : k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (arg12.view.writes (Elt F) arg12.view.junk (L12x (arg7.view.read (Elt F) (arg7.view.writes (Elt F) arg7.view.junk (L7x (arg1.view.read (Elt F) (harg1.unread x1))))) (arg1.view.read (Elt F) (harg1.unread x1))))) (Rect.unit (s := S256x7168) ![0, 0] S256x7168.size inb_S256x7168_S256x7168_0_0)) (View.ld (S := S256x7168) (Val := Elt F) (e' := .bf16) (arg13.view.read (Elt F) (arg13.view.writes (Elt F) arg13.view.junk (L13x (arg1.view.read (Elt F) (harg1.unread x1))))) (Rect.unit (s := S256x7168) ![0, 0] S256x7168.size inb_S256x7168_S256x7168_0_0)) (View.ld (S := S256x1) (Val := Elt F) (e' := .f32) (arg9.view.read (Elt F) (arg9.view.writes (Elt F) arg9.view.junk [⟨(Rect.unit (s := S256x1) ![0, 0] S256x1.size inb_S256x1_S256x1_0_0), xsF (arg1.view.read (Elt F) (harg1.unread x1))⟩])) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0)) = (k0_pay108 x2 (codesF x1) (xoutF x1) (xsF x1) x3 x4 x5) := by
  have e7 : (arg7.view.read (Elt F) (arg7.view.writes (Elt F) arg7.view.junk (L7x (arg1.view.read (Elt F) (harg1.unread x1))))) = maskF x1 := by
    rw [View.read_writes_eq_canon arg7.view _ _ (L7x_cover _), canon_L7x, harg1.read_unread]
  have e12 : (arg12.view.read (Elt F) (arg12.view.writes (Elt F) arg12.view.junk (L12x (arg7.view.read (Elt F) (arg7.view.writes (Elt F) arg7.view.junk (L7x (arg1.view.read (Elt F) (harg1.unread x1))))) (arg1.view.read (Elt F) (harg1.unread x1))))) = codesF x1 := by
    rw [View.read_writes_eq_canon arg12.view _ _ (L12x_cover _ _), canon_L12x, e7, harg1.read_unread]
    exact rfl
  have e13 : (arg13.view.read (Elt F) (arg13.view.writes (Elt F) arg13.view.junk (L13x (arg1.view.read (Elt F) (harg1.unread x1))))) = xoutF x1 := by
    rw [View.read_writes_eq_canon arg13.view _ _ (L13x_cover _), canon_L13x, harg1.read_unread]
  have e9 : (arg9.view.read (Elt F) (arg9.view.writes (Elt F) arg9.view.junk [⟨(Rect.unit (s := S256x1) ![0, 0] S256x1.size inb_S256x1_S256x1_0_0), xsF (arg1.view.read (Elt F) (harg1.unread x1))⟩])) = xsF x1 := by
    rw [read_writes_whole, harg1.read_unread]
  exact pay108_congr ((ld_whole _ _).trans (harg2.read_unread x2)) ((ld_whole _ _).trans e12) ((ld_whole _ _).trans e13) ((ld_whole _ _).trans e9) ((ld_whole _ _).trans (harg3.read_unread x3)) ((ld_whole _ _).trans (harg4.read_unread x4)) ((ld_whole _ _).trans (harg5.read_unread x5))

/-- The block of outputs. -/
theorem readA_6 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (f : arg6.view.ty.Contents (Elt F)) :
    arg6.view.read (Elt F) (arg6.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).1) = (k0_pay108 x2 (codesF x1) (xoutF x1) (xsF x1) x3 x4 x5) := by
  rw [runA_6, read_writes_whole, yA_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14]

/-- The rows' largest magnitudes so far. -/
theorem readA_15 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (f : arg15.view.ty.Contents (Elt F)) :
    arg15.view.read (Elt F) (arg15.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.2.2.1) = k0_pay1 (k0_pay108 x2 (codesF x1) (xoutF x1) (xsF x1) x3 x4 x5) k0_pay107 := by
  rw [runA_15, read_writes_whole, yA_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14, read_writes_whole]
  exact congrArg _ (ld_whole _ _)

/-- The stack of output blocks: the first one stored, the others as they were. -/
theorem readA_14 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (k : Fin 36) (hk : (i 0).val = k.val) (j : Fin 36) :
    plane (arg14.view.read (Elt F) (arg14.view.writes (Elt F) (harg14.unread x14) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.2.2.2.1)) j = if j = k then (k0_pay108 x2 (codesF x1) (xoutF x1) (xsF x1) x3 x4 x5) else plane x14 j := by
  rw [runA_14]
  refine (plane_store (Val := Elt F) (e := .bf16) (K := 36) (r := 256) (c := 512) arg14.view (harg14.unread x14) (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (arg12.view.writes (Elt F) arg12.view.junk (L12x (arg7.view.read (Elt F) (arg7.view.writes (Elt F) arg7.view.junk (L7x (arg1.view.read (Elt F) (harg1.unread x1))))) (arg1.view.read (Elt F) (harg1.unread x1))))) (Rect.unit (s := S256x7168) ![0, 0] S256x7168.size inb_S256x7168_S256x7168_0_0)) (View.ld (S := S256x7168) (Val := Elt F) (e' := .bf16) (arg13.view.read (Elt F) (arg13.view.writes (Elt F) arg13.view.junk (L13x (arg1.view.read (Elt F) (harg1.unread x1))))) (Rect.unit (s := S256x7168) ![0, 0] S256x7168.size inb_S256x7168_S256x7168_0_0)) (View.ld (S := S256x1) (Val := Elt F) (e' := .f32) (arg9.view.read (Elt F) (arg9.view.writes (Elt F) arg9.view.junk [⟨(Rect.unit (s := S256x1) ![0, 0] S256x1.size inb_S256x1_S256x1_0_0), xsF (arg1.view.read (Elt F) (harg1.unread x1))⟩])) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))) k (k0_off1 i) ((k0_off1_eq i).trans (by rw [hk])) (k0_off1_inb i) shapeCasts_S256x512_S1x256x512 j).trans ?_
  rw [harg14.read_unread, yA_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14]

end Cert.Kernel.Gen

end
-- ==== Proof.Kernel.RunB.lean ====
/- The body at a point strictly between the first and the last: one block of outputs. -/
module

public import proofs.«01_k».proof.Proof.Kernel.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point strictly between the first and the last: one block of outputs. The pieces each stored buffer ends with are the witness; the proof is the run of the body on whole
    memrefs, the inputs' at their contents and given back as they were. -/
noncomputable def kernelRun0_B (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    Σ' (L6 : List (View.Piece (Elt F) S256x512 .bf16)), Σ' (L14 : List (View.Piece (Elt F) S36x256x512 .bf16)), { L15 : List (View.Piece (Elt F) S256x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg12 fullShare x12 ∗ owns (c : Thread nD τ) arg13 fullShare x13 ∗ (∃ d, owns (c : Thread nD τ) arg6 fullShare d) ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg12 fullShare x12 ∗ owns (c : Thread nD τ) arg13 fullShare x13 ∗ (∃ f, arg6.view.loc (c : Thread nD τ) ↦[arg6.view.set]{fullShare} arg6.view.writes (Elt F) f L6) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15)) -∗ K ⟨⟩))
          ⊢ wp frame (wpE (defs₀ (F := F)) Variants.none c none) E (cc0_int8_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_int8_linear_eq_skeleton]; unfold cc0_int8_linear_skel
    simp only [k0_part22_eq_skeleton]; unfold k0_part22_skel

    unfold owns
    iintro ⟨⟨%f1, %hf1, H1⟩, ⟨%f2, %hf2, H2⟩, ⟨%f3, %hf3, H3⟩, ⟨%f4, %hf4, H4⟩, ⟨%f5, %hf5, H5⟩, ⟨%f9, %hf9, H9⟩, ⟨%f12, %hf12, H12⟩, ⟨%f13, %hf13, H13⟩, ⟨%d6, %f6, -, H6⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg12.eq_unread hf12; obtain rfl := harg13.eq_unread hf13; obtain rfl := harg14.eq_unread hf14; obtain rfl := harg15.eq_unread hf15
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H9]
    · iexists _; isplitr; · ipureintro; exact harg9.read_unread _
      iexact H9
    isplitl [H12]
    · iexists _; isplitr; · ipureintro; exact harg12.read_unread _
      iexact H12
    isplitl [H13]
    · iexists _; isplitr; · ipureintro; exact harg13.read_unread _
      iexact H13
    isplitl [H6]
    · iexists _; iexact H6
    isplitl [H14]
    · iexact H14
    iexact H15

end Cert.Kernel.Gen

end
-- ==== Proof.Kernel.ReadB.lean ====
/- What the buffers read after the body's run at a point strictly between the first and the last. -/
module

public import proofs.«01_k».proof.Proof.Kernel.RunB
public import proofs.«01_k».proof.Proof.Kernel.Values

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Tiles Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The writes that the body makes at the points between the first and the last to the buffer of the block of outputs. -/
theorem runB_6 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).1 = [⟨(Rect.unit (s := S256x512) ![0, 0] S256x512.size inb_S256x512_S256x512_0_0), (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0)))⟩] := by
  rfl

set_option maxHeartbeats 2000000 in
/-- The writes that the body makes at the points between the first and the last to the buffer of the rows' largest magnitudes, in scratch. -/
theorem runB_15 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.1 = [⟨(Rect.unit (s := S256x1) ![0, 0] S256x1.size inb_S256x1_S256x1_0_0), k0_pay1 (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))) (View.ld (S := S256x1) (Val := Elt F) (e' := .f32) (arg15.view.read (Elt F) (harg15.unread x15)) (Rect.unit (s := S256x1) ![0, 0] S256x1.size inb_S256x1_S256x1_0_0))⟩] := by
  rfl

set_option maxHeartbeats 2000000 in
/-- The writes that the body makes at the points between the first and the last to the buffer of the stack of output blocks, in scratch. -/
theorem runB_14 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.1 = [⟨Rect.unit (s := S36x256x512) (k0_off1 i) S1x256x512.size (k0_off1_inb i), k0_pay109 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))⟩] := by
  rfl

/-- The block of outputs computed at the point, from what the body reads. -/
theorem yB_eq (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) : k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0)) = (k0_pay108 x2 x12 x13 x9 x3 x4 x5) := by
  rw [harg2.read_unread, harg3.read_unread, harg4.read_unread, harg5.read_unread, harg9.read_unread, harg12.read_unread, harg13.read_unread]
  congr 1 <;> exact ld_whole _ _

/-- The block of outputs. -/
theorem readB_6 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) (f : arg6.view.ty.Contents (Elt F)) :
    arg6.view.read (Elt F) (arg6.view.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).1) = (k0_pay108 x2 x12 x13 x9 x3 x4 x5) := by
  rw [runB_6, read_writes_whole, yB_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15]

/-- The rows' largest magnitudes so far. -/
theorem readB_15 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32)  :
    arg15.view.read (Elt F) (arg15.view.writes (Elt F) (harg15.unread x15) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.1) = k0_pay1 (k0_pay108 x2 x12 x13 x9 x3 x4 x5) x15 := by
  rw [runB_15, read_writes_whole, yB_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15, harg15.read_unread]
  congr 1; exact ld_whole _ _

/-- The stack of output blocks: the point's stored, the others as they were. -/
theorem readB_14 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) (k : Fin 36) (hk : (i 0).val = k.val) (j : Fin 36) :
    plane (arg14.view.read (Elt F) (arg14.view.writes (Elt F) (harg14.unread x14) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.1)) j = if j = k then (k0_pay108 x2 x12 x13 x9 x3 x4 x5) else plane x14 j := by
  rw [runB_14]
  refine (plane_store (Val := Elt F) (e := .bf16) (K := 36) (r := 256) (c := 512) arg14.view (harg14.unread x14) (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))) k (k0_off1 i) ((k0_off1_eq i).trans (by rw [hk])) (k0_off1_inb i) shapeCasts_S256x512_S1x256x512 j).trans ?_
  rw [harg14.read_unread, yB_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15]

end Cert.Kernel.Gen

end
-- ==== Proof.Kernel.RunC.lean ====
/- The body at the last point: the last block of outputs, then the quantisation of all of them. -/
module

public import proofs.«01_k».proof.Proof.Kernel.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last point: the last block of outputs, then the quantisation of all of them. The pieces each stored buffer ends with are the witness; the proof is the run of the body on whole
    memrefs, the inputs' at their contents and given back as they were. -/
noncomputable def kernelRun0_C (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    Σ' (L6 : List (View.Piece (Elt F) S256x512 .bf16)), Σ' (L10 : List (View.Piece (Elt F) S256x18432 .i8)), Σ' (L11 : List (View.Piece (Elt F) S256x1 .f32)), Σ' (L14 : List (View.Piece (Elt F) S36x256x512 .bf16)), { L15 : List (View.Piece (Elt F) S256x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg12 fullShare x12 ∗ owns (c : Thread nD τ) arg13 fullShare x13 ∗ (∃ d, owns (c : Thread nD τ) arg6 fullShare d) ∗ (∃ d, owns (c : Thread nD τ) arg10 fullShare d) ∗ (∃ d, owns (c : Thread nD τ) arg11 fullShare d) ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg12 fullShare x12 ∗ owns (c : Thread nD τ) arg13 fullShare x13 ∗ (∃ f, arg6.view.loc (c : Thread nD τ) ↦[arg6.view.set]{fullShare} arg6.view.writes (Elt F) f L6) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15)) -∗ K ⟨⟩))
          ⊢ wp frame (wpE (defs₀ (F := F)) Variants.none c none) E (cc0_int8_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_int8_linear_eq_skeleton]; unfold cc0_int8_linear_skel
    simp only [k0_part22_eq_skeleton]; unfold k0_part22_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f9, %hf9, H9⟩, ⟨%f12, %hf12, H12⟩, ⟨%f13, %hf13, H13⟩, ⟨%d6, %f6, -, H6⟩, ⟨%d10, %f10, -, H10⟩, ⟨%d11, %f11, -, H11⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg12.eq_unread hf12; obtain rfl := harg13.eq_unread hf13; obtain rfl := harg14.eq_unread hf14; obtain rfl := harg15.eq_unread hf15
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H9]
    · iexists _; isplitr; · ipureintro; exact harg9.read_unread _
      iexact H9
    isplitl [H12]
    · iexists _; isplitr; · ipureintro; exact harg12.read_unread _
      iexact H12
    isplitl [H13]
    · iexists _; isplitr; · ipureintro; exact harg13.read_unread _
      iexact H13
    isplitl [H6]
    · iexists _; iexact H6
    isplitl [H10]
    · iexists _; iexact H10
    isplitl [H11]
    · iexists _; iexact H11
    isplitl [H14]
    · iexact H14
    iexact H15

end Cert.Kernel.Gen

end
-- ==== Proof.Kernel.ReadC.lean ====
/- What the buffers read after the body's run at the last point. -/
module

public import proofs.«01_k».proof.Proof.Kernel.RunC
public import proofs.«01_k».proof.Proof.Kernel.Values

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Tiles Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The writes that the body makes at the last point to the buffer of the block of outputs. -/
theorem runC_6 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).1 = [⟨(Rect.unit (s := S256x512) ![0, 0] S256x512.size inb_S256x512_S256x512_0_0), (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0)))⟩] := by
  rfl

set_option maxHeartbeats 2000000 in
/-- The writes that the body makes at the last point to the buffer of the rows' largest magnitudes, in scratch. -/
theorem runC_15 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.2.1 = [⟨(Rect.unit (s := S256x1) ![0, 0] S256x1.size inb_S256x1_S256x1_0_0), k0_pay1 (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))) (View.ld (S := S256x1) (Val := Elt F) (e' := .f32) (arg15.view.read (Elt F) (harg15.unread x15)) (Rect.unit (s := S256x1) ![0, 0] S256x1.size inb_S256x1_S256x1_0_0))⟩] := by
  rfl

set_option maxHeartbeats 2000000 in
/-- The writes that the body makes at the last point to the buffer of the stack of output blocks, in scratch. -/
theorem runC_14 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.1 = [⟨Rect.unit (s := S36x256x512) (k0_off1 i) S1x256x512.size (k0_off1_inb i), k0_pay109 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))⟩] := by
  rfl

/-- The block of outputs computed at the point, from what the body reads. -/
theorem yC_eq (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) : k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0)) = (k0_pay108 x2 x12 x13 x9 x3 x4 x5) := by
  rw [harg2.read_unread, harg3.read_unread, harg4.read_unread, harg5.read_unread, harg9.read_unread, harg12.read_unread, harg13.read_unread]
  congr 1 <;> exact ld_whole _ _

/-- The block of outputs. -/
theorem readC_6 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) (f : arg6.view.ty.Contents (Elt F)) :
    arg6.view.read (Elt F) (arg6.view.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).1) = (k0_pay108 x2 x12 x13 x9 x3 x4 x5) := by
  rw [runC_6, read_writes_whole, yC_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15]

/-- The rows' largest magnitudes so far. -/
theorem readC_15 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32)  :
    arg15.view.read (Elt F) (arg15.view.writes (Elt F) (harg15.unread x15) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.2.1) = k0_pay1 (k0_pay108 x2 x12 x13 x9 x3 x4 x5) x15 := by
  rw [runC_15, read_writes_whole, yC_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15, harg15.read_unread]
  congr 1; exact ld_whole _ _

/-- The stack of output blocks: the point's stored, the others as they were. -/
theorem readC_14 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) (k : Fin 36) (hk : (i 0).val = k.val) (j : Fin 36) :
    plane (arg14.view.read (Elt F) (arg14.view.writes (Elt F) (harg14.unread x14) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.1)) j = if j = k then (k0_pay108 x2 x12 x13 x9 x3 x4 x5) else plane x14 j := by
  rw [runC_14]
  refine (plane_store (Val := Elt F) (e := .bf16) (K := 36) (r := 256) (c := 512) arg14.view (harg14.unread x14) (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))) k (k0_off1 i) ((k0_off1_eq i).trans (by rw [hk])) (k0_off1_inb i) shapeCasts_S256x512_S1x256x512 j).trans ?_
  rw [harg14.read_unread, yC_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15]

set_option maxHeartbeats 2000000 in
/-- The writes that the body makes at the last point to the buffer of the scales of the outputs. -/
theorem runC_11 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.1 = [⟨(Rect.unit (s := S256x1) ![0, 0] S256x1.size inb_S256x1_S256x1_0_0), k0_pay70 (View.ld (S := S256x1) (Val := Elt F) (e' := .f32) (arg15.view.read (Elt F) (arg15.view.writes (Elt F) arg15.view.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.2.1)) (Rect.unit (s := S256x1) ![0, 0] S256x1.size inb_S256x1_S256x1_0_0))⟩] := by
  rfl

set_option maxHeartbeats 2000000 in
/-- The writes that the body makes at the last point to the buffer of the codes of the outputs. -/
theorem runC_10 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.1 = L10x (View.ld (S := S256x1) (Val := Elt F) (e' := .f32) (arg15.view.read (Elt F) (arg15.view.writes (Elt F) arg15.view.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.2.1)) (Rect.unit (s := S256x1) ![0, 0] S256x1.size inb_S256x1_S256x1_0_0)) (arg14.view.read (Elt F) (arg14.view.writes (Elt F) (harg14.unread x14) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.1)) := by
  rfl

/-- The rows' largest magnitudes over all blocks. -/
theorem amaxC (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) : (View.ld (S := S256x1) (Val := Elt F) (e' := .f32) (arg15.view.read (Elt F) (arg15.view.writes (Elt F) arg15.view.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.2.1)) (Rect.unit (s := S256x1) ![0, 0] S256x1.size inb_S256x1_S256x1_0_0)) = k0_pay1 (k0_pay108 x2 x12 x13 x9 x3 x4 x5) x15 := by
  rw [runC_15, read_writes_whole, yC_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15, harg15.read_unread]
  refine (ld_whole _ _).trans ?_
  congr 1; exact ld_whole _ _

/-- The scales of the output rows. -/
theorem readC_11 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) (f : arg11.view.ty.Contents (Elt F)) :
    arg11.view.read (Elt F) (arg11.view.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.1) = k0_pay70 (k0_pay1 (k0_pay108 x2 x12 x13 x9 x3 x4 x5) x15) := by
  rw [runC_11, read_writes_whole, amaxC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15]

/-- The quantised outputs, from the finished stack. -/
theorem readC_10 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) (f : arg10.view.ty.Contents (Elt F)) :
    arg10.view.read (Elt F) (arg10.view.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.1) = ycF (k0_pay70 (k0_pay1 (k0_pay108 x2 x12 x13 x9 x3 x4 x5) x15)) (arg14.view.read (Elt F) (arg14.view.writes (Elt F) (harg14.unread x14) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.1)) := by
  refine (congrArg (fun L => arg10.view.read (Elt F) (arg10.view.writes (Elt F) f L)) (runC_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15)).trans ?_
  rw [View.read_writes_eq_canon _ _ _ (L10x_cover _ _), canon_L10x, amaxC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15]

end Cert.Kernel.Gen

end
-- ==== Proof.Kernel.Frame.lean ====
/- The proof data of the pipeline, with the contents of every buffer named; the body's triple at every point; the run of @main and the frame. -/
module

public import proofs.«01_k».proof.Proof.Kernel.ReadA
public import proofs.«01_k».proof.Proof.Kernel.ReadB
public import proofs.«01_k».proof.Proof.Kernel.ReadC
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Tiles Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first point of the grid. -/
abbrev pt0 : Fin cfg0.N := ⟨0, by rw [show cfg0.N = 36 from N_0]; decide⟩
/-- The activations the body reads (the same block at every point). -/
def x0 (c : Dev nD) : Vec F S256x7168 .bf16 := iblk m c 0 pt0
/-- Window 0's block is the same at every point. -/
theorem iblk0_const (c : Dev nD) (t : Fin cfg0.N) : iblk m c 0 t = x0 m c := by
  unfold x0 iblk; rfl
/-- The point of the grid numbered `k`. -/
abbrev ptk (k : Fin 36) : Fin cfg0.N := ⟨k.val, by rw [show cfg0.N = 36 from N_0]; exact k.isLt⟩
/-- The block of outputs computed at point `t`. -/
def yAt (c : Dev nD) (t : Fin cfg0.N) : Vec F S256x512 .bf16 :=
  k0_pay108 (iblk m c 1 t) (codesF (x0 m c)) (xoutF (x0 m c)) (xsF (x0 m c)) (iblk m c 2 t) (iblk m c 3 t) (iblk m c 4 t)
/-- The rows' largest magnitudes over the first `n` blocks of outputs. -/
def amaxAt (c : Dev nD) : ℕ → Vec F S256x1 .f32
  | 0 => k0_pay107
  | n + 1 => if h : n < 36 then k0_pay1 (yAt m c (ptk ⟨n, h⟩)) (amaxAt c n) else amaxAt c n
/-- One more block taken in. -/
theorem amaxAt_succ (c : Dev nD) (t : Fin cfg0.N) : amaxAt m c (t.val + 1) = k0_pay1 (yAt m c t) (amaxAt m c t.val) := by
  have ht : t.val < 36 := Nat.lt_of_lt_of_eq t.isLt N_0
  rw [amaxAt, dif_pos ht]
/-- The finished stack of output blocks. -/
def yAll (c : Dev nD) : Vec F S36x256x512 .bf16 := fun j => yAt m c (ptk (j 0)) (ix2 (j 1) (j 2))
/-- A stack whose planes are the blocks is the finished one. -/
theorem yAll_of (c : Dev nD) (Y : Vec F S36x256x512 .bf16) (h : ∀ k : Fin 36, plane (K := 36) (r := 256) (c := 512) Y k = yAt m c (ptk k)) : Y = yAll m c := by
  funext j
  have h1 := congrFun (h (j 0)) (ix2 (j 1) (j 2))
  refine Eq.trans ?_ h1
  unfold plane
  exact congrArg Y (eq_ix3 (n0 := 36) (n1 := 256) (n2 := 512) j)
/-- The scales of the output rows. -/
def ysAll (c : Dev nD) : Vec F S256x1 .f32 := k0_pay70 (amaxAt m c 36)
/-- The quantised outputs. -/
def ycAll (c : Dev nD) : Vec F S256x18432 .i8 := ycF (ysAll m c) (yAll m c)

/-- The invariant between points `n - 1` and `n`: before the first the scratch at anything; later the quantised and
    the outlier parts of the activations, the blocks stored so far and the rows' largest magnitudes so far. -/
def PhiS (c : Dev nD) : ℕ → sProp 𝕄
  | 0 => Pipeline.ΦA spec0 c
  | n + 1 => iprop(iprop(owns (c : Thread nD τ) scM0_0 fullShare (codesF (x0 m c)) ∗ owns (c : Thread nD τ) scM0_1 fullShare (xoutF (x0 m c))
      ∗ (∃ Y : Vec F S36x256x512 .bf16, ⌜∀ k : Fin 36, k.val < n + 1 → plane (K := 36) (r := 256) (c := 512) Y k = yAt m c (ptk k)⌝ ∗ owns (c : Thread nD τ) scM0_2 fullShare Y)
      ∗ owns (c : Thread nD τ) scM0_3 fullShare (amaxAt m c (n + 1))) ∗ (∃ r, prngReg c r))

/-- The invariant after at least one point, spelt out. -/
theorem PhiS_pos (c : Dev nD) (n : ℕ) (h : n ≠ 0) : PhiS m c n = iprop(iprop(owns (c : Thread nD τ) scM0_0 fullShare (codesF (x0 m c)) ∗ owns (c : Thread nD τ) scM0_1 fullShare (xoutF (x0 m c))
      ∗ (∃ Y : Vec F S36x256x512 .bf16, ⌜∀ k : Fin 36, k.val < n → plane (K := 36) (r := 256) (c := 512) Y k = yAt m c (ptk k)⌝ ∗ owns (c : Thread nD τ) scM0_2 fullShare Y)
      ∗ owns (c : Thread nD τ) scM0_3 fullShare (amaxAt m c n)) ∗ (∃ r, prngReg c r)) := by
  cases n with
  | zero => exact absurd rfl h
  | succ n => rfl

/-! ## The pipeline's proof data -/

/-- The proof data of the pipeline on core `c`: the arrays as the region finds them; after the body at a point each
    input's buffer at its block and each output's at the array named for it; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => maskF (x0 m c)
    | ⟨7, _⟩ => xcF (x0 m c)
    | ⟨8, _⟩ => xsF (x0 m c)
    | ⟨9, _⟩ => ycAll m c
    | ⟨10, _⟩ => ysAll m c
  Φ t := PhiS m c t.val
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) : (dats m 0 c).Φ t.castSucc = PhiS m c t.val := by
  dsimp only [dats]; rfl

/-! What the body leaves, window by window. -/
/-- The body leaves window 0 holding its block of the activations. -/
theorem after0_0 (c : Dev nD) (t : Fin cfg0.N) : (dats m 0 c).after 0 t = iblk m c 0 t := by dsimp only [dats]
/-- The body leaves window 1 holding its block of the weights. -/
theorem after0_1 (c : Dev nD) (t : Fin cfg0.N) : (dats m 0 c).after 1 t = iblk m c 1 t := by dsimp only [dats]
/-- The body leaves window 2 holding its block of the weights' scales. -/
theorem after0_2 (c : Dev nD) (t : Fin cfg0.N) : (dats m 0 c).after 2 t = iblk m c 2 t := by dsimp only [dats]
/-- The body leaves window 3 holding its block of the bias. -/
theorem after0_3 (c : Dev nD) (t : Fin cfg0.N) : (dats m 0 c).after 3 t = iblk m c 3 t := by dsimp only [dats]
/-- The body leaves window 4 holding its block of the residual. -/
theorem after0_4 (c : Dev nD) (t : Fin cfg0.N) : (dats m 0 c).after 4 t = iblk m c 4 t := by dsimp only [dats]
/-- The body leaves window 5 holding the point's block of outputs. -/
theorem after0_5 (c : Dev nD) (t : Fin cfg0.N) : (dats m 0 c).after 5 t = yAt m c t := by dsimp only [dats]
/-- The body leaves window 6 holding the outlier marks. -/
theorem after0_6 (c : Dev nD) (t : Fin cfg0.N) : (dats m 0 c).after 6 t = maskF (x0 m c) := by dsimp only [dats]
/-- The body leaves window 7 holding the codes of the activations. -/
theorem after0_7 (c : Dev nD) (t : Fin cfg0.N) : (dats m 0 c).after 7 t = xcF (x0 m c) := by dsimp only [dats]
/-- The body leaves window 8 holding the scales of the activations. -/
theorem after0_8 (c : Dev nD) (t : Fin cfg0.N) : (dats m 0 c).after 8 t = xsF (x0 m c) := by dsimp only [dats]
/-- The body leaves window 9 holding the codes of the outputs. -/
theorem after0_9 (c : Dev nD) (t : Fin cfg0.N) : (dats m 0 c).after 9 t = ycAll m c := by dsimp only [dats]
/-- The body leaves window 10 holding the scales of the outputs. -/
theorem after0_10 (c : Dev nD) (t : Fin cfg0.N) : (dats m 0 c).after 10 t = ysAll m c := by dsimp only [dats]

/-! Each input's current staging buffer holds its block at every point. -/
/-- The body finds window 0 holding its block of the activations. -/
theorem before0_0 (c : Dev nD) (t : Fin cfg0.N) (d) : (dats m 0 c).before 0 t d = iblk m c 0 t :=
  before0_0_of m (dats m 0 c) (A_eq m c 0) (after0_0 m c) t d
/-- The body finds window 1 holding its block of the weights. -/
theorem before0_1 (c : Dev nD) (t : Fin cfg0.N) (d) : (dats m 0 c).before 1 t d = iblk m c 1 t :=
  before0_1_of m (dats m 0 c) (A_eq m c 1) (after0_1 m c) t d
/-- The body finds window 2 holding its block of the weights' scales. -/
theorem before0_2 (c : Dev nD) (t : Fin cfg0.N) (d) : (dats m 0 c).before 2 t d = iblk m c 2 t :=
  before0_2_of m (dats m 0 c) (A_eq m c 2) (after0_2 m c) t d
/-- The body finds window 3 holding its block of the bias. -/
theorem before0_3 (c : Dev nD) (t : Fin cfg0.N) (d) : (dats m 0 c).before 3 t d = iblk m c 3 t :=
  before0_3_of m (dats m 0 c) (A_eq m c 3) (after0_3 m c) t d
/-- The body finds window 4 holding its block of the residual. -/
theorem before0_4 (c : Dev nD) (t : Fin cfg0.N) (d) : (dats m 0 c).before 4 t d = iblk m c 4 t :=
  before0_4_of m (dats m 0 c) (A_eq m c 4) (after0_4 m c) t d

/-- Output 6's buffer, stored at the first point, keeps its contents. -/
theorem before0_6 (c : Dev nD) (d) : ∀ (n : ℕ) (t : Fin cfg0.N), t.val = n + 1 → (dats m 0 c).before 6 t d = maskF (x0 m c) := by
  intro n
  induction n with
  | zero =>
    intro t ht
    have h36 : t.val < 36 := Nat.lt_of_lt_of_eq t.isLt N_0
    rw [(dats m 0 c).before_of_pos 6 t (by omega) rfl d, noFlush0_6 _ (by show t.val - 1 ≠ 35; omega), if_neg Bool.false_ne_true]
    unfold Dat.left
    rw [liveAt0_6 _ (by show t.val - 1 = 0; omega)]
    show (dats m 0 c).after 6 _ = _
    rw [after0_6]
  | succ n ih =>
    intro t ht
    have h36 : t.val < 36 := Nat.lt_of_lt_of_eq t.isLt N_0
    rw [(dats m 0 c).before_of_pos 6 t (by omega) rfl d, noFlush0_6 _ (by show t.val - 1 ≠ 35; omega), if_neg Bool.false_ne_true]
    unfold Dat.left
    rw [idleAt0_6 _ (by show t.val - 1 ≠ 0; omega)]
    exact ih _ (by show t.val - 1 = n + 1; omega)

/-- Output 7's buffer, stored at the first point, keeps its contents. -/
theorem before0_7 (c : Dev nD) (d) : ∀ (n : ℕ) (t : Fin cfg0.N), t.val = n + 1 → (dats m 0 c).before 7 t d = xcF (x0 m c) := by
  intro n
  induction n with
  | zero =>
    intro t ht
    have h36 : t.val < 36 := Nat.lt_of_lt_of_eq t.isLt N_0
    rw [(dats m 0 c).before_of_pos 7 t (by omega) rfl d, noFlush0_7 _ (by show t.val - 1 ≠ 35; omega), if_neg Bool.false_ne_true]
    unfold Dat.left
    rw [liveAt0_7 _ (by show t.val - 1 = 0; omega)]
    show (dats m 0 c).after 7 _ = _
    rw [after0_7]
  | succ n ih =>
    intro t ht
    have h36 : t.val < 36 := Nat.lt_of_lt_of_eq t.isLt N_0
    rw [(dats m 0 c).before_of_pos 7 t (by omega) rfl d, noFlush0_7 _ (by show t.val - 1 ≠ 35; omega), if_neg Bool.false_ne_true]
    unfold Dat.left
    rw [idleAt0_7 _ (by show t.val - 1 ≠ 0; omega)]
    exact ih _ (by show t.val - 1 = n + 1; omega)

/-- Output 8's buffer, stored at the first point, keeps its contents. -/
theorem before0_8 (c : Dev nD) (d) : ∀ (n : ℕ) (t : Fin cfg0.N), t.val = n + 1 → (dats m 0 c).before 8 t d = xsF (x0 m c) := by
  intro n
  induction n with
  | zero =>
    intro t ht
    have h36 : t.val < 36 := Nat.lt_of_lt_of_eq t.isLt N_0
    rw [(dats m 0 c).before_of_pos 8 t (by omega) rfl d, noFlush0_8 _ (by show t.val - 1 ≠ 35; omega), if_neg Bool.false_ne_true]
    unfold Dat.left
    rw [liveAt0_8 _ (by show t.val - 1 = 0; omega)]
    show (dats m 0 c).after 8 _ = _
    rw [after0_8]
  | succ n ih =>
    intro t ht
    have h36 : t.val < 36 := Nat.lt_of_lt_of_eq t.isLt N_0
    rw [(dats m 0 c).before_of_pos 8 t (by omega) rfl d, noFlush0_8 _ (by show t.val - 1 ≠ 35; omega), if_neg Bool.false_ne_true]
    unfold Dat.left
    rw [idleAt0_8 _ (by show t.val - 1 ≠ 0; omega)]
    exact ih _ (by show t.val - 1 = n + 1; omega)

/-! ## The body at every point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- What the pipeline asks of window 0 after a point: its buffer holds its block of the activations. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
/-- What the pipeline asks of window 1 after a point: its buffer holds its block of the weights. -/
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
/-- What the pipeline asks of window 2 after a point: its buffer holds its block of the weights' scales. -/
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
/-- What the pipeline asks of window 3 after a point: its buffer holds its block of the bias. -/
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
/-- What the pipeline asks of window 4 after a point: its buffer holds its block of the residual. -/
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
/-- What the pipeline asks of window 5 after a point: its buffer holds the point's block of outputs. -/
theorem leaves0_5 (c : Dev nD) (t : Fin cfg0.N) : (dats m 0 c).leavesExact 5 t = owns (c : Thread nD τ) (ms0_5 t) fullShare (yAt m c t) := by
  unfold Dat.leavesExact; rw [liveAt0_5 t, after0_5]
/-- What the pipeline asks of window 6 after the first point: its buffer holds the outlier marks. -/
theorem leaves0_6_A (c : Dev nD) (t : Fin cfg0.N) (h : t.val = 0) : (dats m 0 c).leavesExact 6 t = owns (c : Thread nD τ) (ms0_6 t) fullShare (maskF (x0 m c)) := by
  unfold Dat.leavesExact; rw [liveAt0_6 t h, after0_6]
/-- What the pipeline asks of window 6 after a point strictly between the first and the last: its buffer is as the point found it. -/
theorem leaves0_6_B (c : Dev nD) (t : Fin cfg0.N) (h0 : t.val ≠ 0) (h1 : t.val ≠ 35) : (dats m 0 c).leavesExact 6 t = iprop(∃ d, owns (c : Thread nD τ) (ms0_6 t) fullShare ((dats m 0 c).before 6 t d)) :=
  Dat.leavesExact_idle (dats m 0 c) 6 t (idleAt0_6 t h0) (noFlush0_6 t h1)
/-- What the pipeline asks of window 6 after the last point: its buffer holds the outlier marks. -/
theorem leaves0_6_C (c : Dev nD) (t : Fin cfg0.N) (h : t.val = 35) : (dats m 0 c).leavesExact 6 t = owns (c : Thread nD τ) (ms0_6 t) fullShare (maskF (x0 m c)) := by
  unfold Dat.leavesExact; rw [idleAt0_6 t (by omega), (flush0_6 t).mpr (by omega), after0_6]
/-- What the pipeline asks of window 7 after the first point: its buffer holds the codes of the activations. -/
theorem leaves0_7_A (c : Dev nD) (t : Fin cfg0.N) (h : t.val = 0) : (dats m 0 c).leavesExact 7 t = owns (c : Thread nD τ) (ms0_7 t) fullShare (xcF (x0 m c)) := by
  unfold Dat.leavesExact; rw [liveAt0_7 t h, after0_7]
/-- What the pipeline asks of window 7 after a point strictly between the first and the last: its buffer is as the point found it. -/
theorem leaves0_7_B (c : Dev nD) (t : Fin cfg0.N) (h0 : t.val ≠ 0) (h1 : t.val ≠ 35) : (dats m 0 c).leavesExact 7 t = iprop(∃ d, owns (c : Thread nD τ) (ms0_7 t) fullShare ((dats m 0 c).before 7 t d)) :=
  Dat.leavesExact_idle (dats m 0 c) 7 t (idleAt0_7 t h0) (noFlush0_7 t h1)
/-- What the pipeline asks of window 7 after the last point: its buffer holds the codes of the activations. -/
theorem leaves0_7_C (c : Dev nD) (t : Fin cfg0.N) (h : t.val = 35) : (dats m 0 c).leavesExact 7 t = owns (c : Thread nD τ) (ms0_7 t) fullShare (xcF (x0 m c)) := by
  unfold Dat.leavesExact; rw [idleAt0_7 t (by omega), (flush0_7 t).mpr (by omega), after0_7]
/-- What the pipeline asks of window 8 after the first point: its buffer holds the scales of the activations. -/
theorem leaves0_8_A (c : Dev nD) (t : Fin cfg0.N) (h : t.val = 0) : (dats m 0 c).leavesExact 8 t = owns (c : Thread nD τ) (ms0_8 t) fullShare (xsF (x0 m c)) := by
  unfold Dat.leavesExact; rw [liveAt0_8 t h, after0_8]
/-- What the pipeline asks of window 8 after a point strictly between the first and the last: its buffer is as the point found it. -/
theorem leaves0_8_B (c : Dev nD) (t : Fin cfg0.N) (h0 : t.val ≠ 0) (h1 : t.val ≠ 35) : (dats m 0 c).leavesExact 8 t = iprop(∃ d, owns (c : Thread nD τ) (ms0_8 t) fullShare ((dats m 0 c).before 8 t d)) :=
  Dat.leavesExact_idle (dats m 0 c) 8 t (idleAt0_8 t h0) (noFlush0_8 t h1)
/-- What the pipeline asks of window 8 after the last point: its buffer holds the scales of the activations. -/
theorem leaves0_8_C (c : Dev nD) (t : Fin cfg0.N) (h : t.val = 35) : (dats m 0 c).leavesExact 8 t = owns (c : Thread nD τ) (ms0_8 t) fullShare (xsF (x0 m c)) := by
  unfold Dat.leavesExact; rw [idleAt0_8 t (by omega), (flush0_8 t).mpr (by omega), after0_8]
/-- What the pipeline asks of window 9 after the last point: its buffer holds the codes of the outputs. -/
theorem leaves0_9_C (c : Dev nD) (t : Fin cfg0.N) (h : t.val = 35) : (dats m 0 c).leavesExact 9 t = owns (c : Thread nD τ) (ms0_9 t) fullShare (ycAll m c) := by
  unfold Dat.leavesExact; rw [liveAt0_9 t h, after0_9]
/-- What the pipeline asks of window 9 after a point before the last: its buffer is as the point found it. -/
theorem leaves0_9_B (c : Dev nD) (t : Fin cfg0.N) (h1 : t.val ≠ 35) : (dats m 0 c).leavesExact 9 t = iprop(∃ d, owns (c : Thread nD τ) (ms0_9 t) fullShare ((dats m 0 c).before 9 t d)) :=
  Dat.leavesExact_idle (dats m 0 c) 9 t (idleAt0_9 t h1) (noFlush0_9 t h1)
/-- What the pipeline asks of window 10 after the last point: its buffer holds the scales of the outputs. -/
theorem leaves0_10_C (c : Dev nD) (t : Fin cfg0.N) (h : t.val = 35) : (dats m 0 c).leavesExact 10 t = owns (c : Thread nD τ) (ms0_10 t) fullShare (ysAll m c) := by
  unfold Dat.leavesExact; rw [liveAt0_10 t h, after0_10]
/-- What the pipeline asks of window 10 after a point before the last: its buffer is as the point found it. -/
theorem leaves0_10_B (c : Dev nD) (t : Fin cfg0.N) (h1 : t.val ≠ 35) : (dats m 0 c).leavesExact 10 t = iprop(∃ d, owns (c : Thread nD τ) (ms0_10 t) fullShare ((dats m 0 c).before 10 t d)) :=
  Dat.leavesExact_idle (dats m 0 c) 10 t (idleAt0_10 t h1) (noFlush0_10 t h1)

set_option maxHeartbeats 4800000 in
/-- The body at the first point. -/
theorem sound_A (c : Dev nD) (t : Fin cfg0.N) (h0 : t.val = 0) :
    bodyPre m c t ⊢ wp frame (wpE (defs₀ (F := F)) Variants.none c none) Set.univ (bodyAt0 t) (fun _ => bodyPost m c t) := by
  have h1 : t.val ≠ 35 := by omega
  have hN : t.val < 36 := lt_of_lt_of_eq t.isLt (show cfg0.N = 36 from N_0)
  have hk : (grid0.coords t 0).val = (⟨t.val, hN⟩ : Fin 36).val := by
    have e0 : (grid0.coords t 0).val = t.val / 1 % 36 := Pipeline.Grid.coords_val t 0 (by decide) rfl
    rw [e0, Nat.div_one, Nat.mod_eq_of_lt hN]
  have hx : iblk m c 0 t = x0 m c := iblk0_const m c t
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [leaves0_0 m c t, leaves0_1 m c t, leaves0_2 m c t, leaves0_3 m c t, leaves0_4 m c t, leaves0_5 m c t, leaves0_6_A m c t h0, leaves0_7_A m c t h0, leaves0_8_A m c t h0, leaves0_9_B m c t h1, leaves0_10_B m c t h1]
  rw [PhiS_castSucc m c t, h0, show PhiS m c 0 = Pipeline.ΦA spec0 c from rfl, PhiA0_eq]
  iintro ⟨⟨⟨HS0, HS1, ⟨%Y, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
  iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) Y).2.2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS3]; · iexact HS3
  isplitl [HS2]; · iexact HS2
  iintro ⟨H0, H1, H2, H3, H4, ⟨%e5, H5⟩, ⟨%e6, H6⟩, ⟨%e7, H7⟩, ⟨%e8, H8⟩, ⟨%es0, HS0⟩, ⟨%es1, HS1⟩, ⟨%es3, HS3⟩, HS2⟩
  isplitl [HS0 HS1 HS2 HS3 Hg]
  · isplitl [HS0 HS1 HS2 HS3]
    · isplitl [HS0]
      · unfold owns; iexists _; isplitr
        swap; · iexact HS0
        ipureintro; rw [← hx]; exact readA_12 c _ _ _ _ _ _ _ _ _ _ _ _ _ _ _ _ _ _ _ _ _ _ _ _ _ _ _ _ _ _ _ (((hcond0_0 t).mpr h0)) (fun h => h1 ((hcond0_1 t).mp h)) _ _ _ _ _ _ _
      isplitl [HS1]
      · unfold owns; iexists _; isplitr
        swap; · iexact HS1
        ipureintro; rw [← hx]; exact readA_13 c _ _ _ _ _ _ _ _ _ _ _ _ _ _ _ _ _ _ _ _ _ _ _ _ _ _ _ _ _ _ _ (((hcond0_0 t).mpr h0)) (fun h => h1 ((hcond0_1 t).mp h)) _ _ _ _ _ _ _
      isplitl [HS2]
      · iexists _; isplitr
        swap
        · unfold owns; iexists _; isplitr
          swap; · iexact HS2
          ipureintro; exact rfl
        ipureintro
        intro k hkt
        refine (readA_14 c _ _ _ _ _ _ _ _ _ _ _ _ _ _ _ _ _ _ _ _ _ _ _ _ _ _ _ _ _ _ _ (((hcond0_0 t).mpr h0)) (fun h => h1 ((hcond0_1 t).mp h)) _ _ _ _ _ _ ⟨t.val, hN⟩ hk k).trans ?_
        have hkk : k = ⟨t.val, hN⟩ := Fin.ext (by show k.val = t.val; omega)
        rw [if_pos hkk]; subst hkk; rw [hx]; rfl
      unfold owns; iexists _; isplitr
      swap; · iexact HS3
      ipureintro
      refine (readA_15 c _ _ _ _ _ _ _ _ _ _ _ _ _ _ _ _ _ _ _ _ _ _ _ _ _ _ _ _ _ _ _ (((hcond0_0 t).mpr h0)) (fun h => h1 ((hcond0_1 t).mp h)) _ _ _ _ _ _ _).trans ?_
      rw [show (0 + 1) = t.val + 1 by omega, amaxAt_succ, hx, h0]; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; refine (readA_6 c _ _ _ _ _ _ _ _ _ _ _ _ _ _ _ _ _ _ _ _ _ _ _ _ _ _ _ _ _ _ _ (((hcond0_0 t).mpr h0)) (fun h => h1 ((hcond0_1 t).mp h)) _ _ _ _ _ _ _).trans ?_; rw [hx]; rfl
  isplitl [H6]
  · unfold owns; iexists _; isplitr
    swap; · iexact H6
    ipureintro; rw [← hx]; exact readA_7 c _ _ _ _ _ _ _ _ _ _ _ _ _ _ _ _ _ _ _ _ _ _ _ _ _ _ _ _ _ _ _ (((hcond0_0 t).mpr h0)) (fun h => h1 ((hcond0_1 t).mp h)) _ _ _ _ _ _ _
  isplitl [H7]
  · unfold owns; iexists _; isplitr
    swap; · iexact H7
    ipureintro; rw [← hx]; exact readA_8 c _ _ _ _ _ _ _ _ _ _ _ _ _ _ _ _ _ _ _ _ _ _ _ _ _ _ _ _ _ _ _ (((hcond0_0 t).mpr h0)) (fun h => h1 ((hcond0_1 t).mp h)) _ _ _ _ _ _ _
  isplitl [H8]
  · unfold owns; iexists _; isplitr
    swap; · iexact H8
    ipureintro; rw [← hx]; exact readA_9 c _ _ _ _ _ _ _ _ _ _ _ _ _ _ _ _ _ _ _ _ _ _ _ _ _ _ _ _ _ _ _ (((hcond0_0 t).mpr h0)) (fun h => h1 ((hcond0_1 t).mp h)) _ _ _ _ _ _ _
  isplitl [H9]; · iexact H9
  iexact H10

set_option maxHeartbeats 4800000 in
/-- The body at a point strictly between the first and the last. -/
theorem sound_B (c : Dev nD) (t : Fin cfg0.N) (h0 : t.val ≠ 0) (h1 : t.val ≠ 35) :
    bodyPre m c t ⊢ wp frame (wpE (defs₀ (F := F)) Variants.none c none) Set.univ (bodyAt0 t) (fun _ => bodyPost m c t) := by
  have hN : t.val < 36 := lt_of_lt_of_eq t.isLt (show cfg0.N = 36 from N_0)
  have hk : (grid0.coords t 0).val = (⟨t.val, hN⟩ : Fin 36).val := by
    have e0 : (grid0.coords t 0).val = t.val / 1 % 36 := Pipeline.Grid.coords_val t 0 (by decide) rfl
    rw [e0, Nat.div_one, Nat.mod_eq_of_lt hN]
  have hx : iblk m c 0 t = x0 m c := iblk0_const m c t
  have h6 := fun d => before0_6 m c d (t.val - 1) t (by omega)
  have h7 := fun d => before0_7 m c d (t.val - 1) t (by omega)
  have h8 := fun d => before0_8 m c d (t.val - 1) t (by omega)
  unfold bodyPre bodyPost bodyAt0
  rw [show (dats m 0 c).Φ t.succ = PhiS m c (t.val + 1) from rfl, PhiS_pos m c (t.val + 1) (Nat.succ_ne_zero _)]
  rw [leaves0_0 m c t, leaves0_1 m c t, leaves0_2 m c t, leaves0_3 m c t, leaves0_4 m c t, leaves0_5 m c t, leaves0_6_B m c t h0 h1, leaves0_7_B m c t h0 h1, leaves0_8_B m c t h0 h1, leaves0_9_B m c t h1, leaves0_10_B m c t h1]
  simp only [before0_0, before0_1, before0_2, before0_3, before0_4, h6, h7, h8]
  rw [show (dats m 0 c).owesAt () t.succ = (dats m 0 c).owesAt () t.castSucc from rfl]
  rw [PhiS_castSucc m c t, PhiS_pos m c t.val h0]
  iintro ⟨⟨⟨HS0, HS1, ⟨%Y, %hY, HS2⟩, HS3⟩, Hg⟩, Ho, ⟨%d0, H0⟩, ⟨%d1, H1⟩, ⟨%d2, H2⟩, ⟨%d3, H3⟩, ⟨%d4, H4⟩, ⟨%d5, H5⟩, H6, H7, ⟨%d8, H8⟩, H9, H10⟩
  iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (xsF (x0 m c)) (codesF (x0 m c)) (xoutF (x0 m c)) Y (amaxAt m c t.val)).2.2.2 Set.univ _)
  isplitl [H0]; · iexact H0
  isplitl [H1]; · iexact H1
  isplitl [H2]; · iexact H2
  isplitl [H3]; · iexact H3
  isplitl [H4]; · iexact H4
  isplitl [H8]; · iexact H8
  isplitl [HS0]; · iexact HS0
  isplitl [HS1]; · iexact HS1
  isplitl [H5]; · iexists _; iexact H5
  isplitl [HS2]; · iexact HS2
  isplitl [HS3]; · iexact HS3
  iintro ⟨H0, H1, H2, H3, H4, H8, HS0, HS1, ⟨%e5, H5⟩, HS2, HS3⟩
  isplitl [HS0 HS1 HS2 HS3 Hg]
  · isplitl [HS0 HS1 HS2 HS3]
    · isplitl [HS0]; · iexact HS0
      isplitl [HS1]; · iexact HS1
      isplitl [HS2]
      · iexists _; isplitr
        swap
        · unfold owns; iexists _; isplitr
          swap; · iexact HS2
          ipureintro; exact rfl
        ipureintro
        intro k hkt
        refine (readB_14 c _ _ _ _ _ _ _ _ _ _ _ _ _ _ _ _ _ _ _ _ _ _ _ _ _ _ _ _ _ _ _ (fun h => h0 ((hcond0_0 t).mp h)) (fun h => h1 ((hcond0_1 t).mp h)) _ _ _ _ _ _ _ _ _ _ ⟨t.val, hN⟩ hk k).trans ?_
        by_cases hkk : k = ⟨t.val, hN⟩
        · rw [if_pos hkk]; subst hkk; rfl
        · rw [if_neg hkk]
          exact hY k (by have : k.val ≠ t.val := fun h => hkk (Fin.ext h); omega)
      unfold owns; iexists _; isplitr
      swap; · iexact HS3
      ipureintro
      refine (readB_15 c _ _ _ _ _ _ _ _ _ _ _ _ _ _ _ _ _ _ _ _ _ _ _ _ _ _ _ _ _ _ _ (fun h => h0 ((hcond0_0 t).mp h)) (fun h => h1 ((hcond0_1 t).mp h)) _ _ _ _ _ _ _ _ _ _).trans ?_
      rw [amaxAt_succ]; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact readB_6 c _ _ _ _ _ _ _ _ _ _ _ _ _ _ _ _ _ _ _ _ _ _ _ _ _ _ _ _ _ _ _ (fun h => h0 ((hcond0_0 t).mp h)) (fun h => h1 ((hcond0_1 t).mp h)) _ _ _ _ _ _ _ _ _ _ _
  isplitl [H6]; · iexact H6
  isplitl [H7]; · iexact H7
  isplitl [H8]; · iexists d8; iexact H8
  isplitl [H9]; · iexact H9
  iexact H10

set_option maxHeartbeats 4800000 in
/-- The body at the last point. -/
theorem sound_C (c : Dev nD) (t : Fin cfg0.N) (h0 : t.val ≠ 0) (h1 : t.val = 35) :
    bodyPre m c t ⊢ wp frame (wpE (defs₀ (F := F)) Variants.none c none) Set.univ (bodyAt0 t) (fun _ => bodyPost m c t) := by
  have hN : t.val < 36 := lt_of_lt_of_eq t.isLt (show cfg0.N = 36 from N_0)
  have hk : (grid0.coords t 0).val = (⟨t.val, hN⟩ : Fin 36).val := by
    have e0 : (grid0.coords t 0).val = t.val / 1 % 36 := Pipeline.Grid.coords_val t 0 (by decide) rfl
    rw [e0, Nat.div_one, Nat.mod_eq_of_lt hN]
  have hx : iblk m c 0 t = x0 m c := iblk0_const m c t
  have h6 := fun d => before0_6 m c d (t.val - 1) t (by omega)
  have h7 := fun d => before0_7 m c d (t.val - 1) t (by omega)
  have h8 := fun d => before0_8 m c d (t.val - 1) t (by omega)
  unfold bodyPre bodyPost bodyAt0
  rw [show (dats m 0 c).Φ t.succ = PhiS m c (t.val + 1) from rfl, PhiS_pos m c (t.val + 1) (Nat.succ_ne_zero _)]
  rw [leaves0_0 m c t, leaves0_1 m c t, leaves0_2 m c t, leaves0_3 m c t, leaves0_4 m c t, leaves0_5 m c t, leaves0_6_C m c t h1, leaves0_7_C m c t h1, leaves0_8_C m c t h1, leaves0_9_C m c t h1, leaves0_10_C m c t h1]
  simp only [before0_0, before0_1, before0_2, before0_3, before0_4, h6, h7, h8]
  rw [show (dats m 0 c).owesAt () t.succ = (dats m 0 c).owesAt () t.castSucc from rfl]
  rw [PhiS_castSucc m c t, PhiS_pos m c t.val h0]
  iintro ⟨⟨⟨HS0, HS1, ⟨%Y, %hY, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF (x0 m c)) (codesF (x0 m c)) (xoutF (x0 m c)) Y (amaxAt m c t.val)).2.2.2.2.2 Set.univ _)
  isplitl [H0]; · iexact H0
  isplitl [H1]; · iexact H1
  isplitl [H2]; · iexact H2
  isplitl [H3]; · iexact H3
  isplitl [H4]; · iexact H4
  isplitl [H8]; · iexact H8
  isplitl [HS0]; · iexact HS0
  isplitl [HS1]; · iexact HS1
  isplitl [H5]; · iexists _; iexact H5
  isplitl [H9]; · iexists _; iexact H9
  isplitl [H10]; · iexists _; iexact H10
  isplitl [HS2]; · iexact HS2
  isplitl [HS3]; · iexact HS3
  iintro ⟨H0, H1, H2, H3, H4, H8, HS0, HS1, ⟨%e5, H5⟩, ⟨%e9, H9⟩, ⟨%e10, H10⟩, HS2, HS3⟩
  isplitl [HS0 HS1 HS2 HS3 Hg]
  · isplitl [HS0 HS1 HS2 HS3]
    · isplitl [HS0]; · iexact HS0
      isplitl [HS1]; · iexact HS1
      isplitl [HS2]
      · iexists _; isplitr
        swap
        · unfold owns; iexists _; isplitr
          swap; · iexact HS2
          ipureintro; exact rfl
        ipureintro
        intro k hkt
        refine (readC_14 c _ _ _ _ _ _ _ _ _ _ _ _ _ _ _ _ _ _ _ _ _ _ _ _ _ _ _ _ _ _ _ (fun h => h0 ((hcond0_0 t).mp h)) ((hcond0_1 t).mpr h1) _ _ _ _ _ _ _ _ _ _ ⟨t.val, hN⟩ hk k).trans ?_
        by_cases hkk : k = ⟨t.val, hN⟩
        · rw [if_pos hkk]; subst hkk; rfl
        · rw [if_neg hkk]
          exact hY k (by have : k.val ≠ t.val := fun h => hkk (Fin.ext h); omega)
      unfold owns; iexists _; isplitr
      swap; · iexact HS3
      ipureintro
      refine (readC_15 c _ _ _ _ _ _ _ _ _ _ _ _ _ _ _ _ _ _ _ _ _ _ _ _ _ _ _ _ _ _ _ (fun h => h0 ((hcond0_0 t).mp h)) ((hcond0_1 t).mpr h1) _ _ _ _ _ _ _ _ _ _).trans ?_
      rw [amaxAt_succ]; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact readC_6 c _ _ _ _ _ _ _ _ _ _ _ _ _ _ _ _ _ _ _ _ _ _ _ _ _ _ _ _ _ _ _ (fun h => h0 ((hcond0_0 t).mp h)) ((hcond0_1 t).mpr h1) _ _ _ _ _ _ _ _ _ _ _
  isplitl [H6]; · iexact H6
  isplitl [H7]; · iexact H7
  isplitl [H8]; · iexact H8
  isplitl [H9]
  · unfold owns; iexists _; isplitr
    swap; · iexact H9
    ipureintro
    refine (readC_10 c _ _ _ _ _ _ _ _ _ _ _ _ _ _ _ _ _ _ _ _ _ _ _ _ _ _ _ _ _ _ _ (fun h => h0 ((hcond0_0 t).mp h)) ((hcond0_1 t).mpr h1) _ _ _ _ _ _ _ _ _ _ _).trans ?_
    have hs : k0_pay70 (k0_pay1 (yAt m c t) (amaxAt m c t.val)) = ysAll m c := by
      rw [← amaxAt_succ, h1]; rfl
    refine Eq.trans (congrArg (fun Z => ycF (k0_pay70 (k0_pay1 (yAt m c t) (amaxAt m c t.val))) Z) (yAll_of m c _ ?_)) (by rw [hs]; rfl)
    intro k
    refine (readC_14 c _ _ _ _ _ _ _ _ _ _ _ _ _ _ _ _ _ _ _ _ _ _ _ _ _ _ _ _ _ _ _ (fun h => h0 ((hcond0_0 t).mp h)) ((hcond0_1 t).mpr h1) _ _ _ _ _ _ _ _ _ _ ⟨t.val, hN⟩ hk k).trans ?_
    by_cases hkk : k = ⟨t.val, hN⟩
    · rw [if_pos hkk]; subst hkk; rfl
    · rw [if_neg hkk]
      exact hY k (by have : k.val ≠ t.val := fun h => hkk (Fin.ext h); have := k.isLt; omega)
  unfold owns; iexists _; isplitr
  swap; · iexact H10
  ipureintro
  refine (readC_11 c _ _ _ _ _ _ _ _ _ _ _ _ _ _ _ _ _ _ _ _ _ _ _ _ _ _ _ _ _ _ _ (fun h => h0 ((hcond0_0 t).mp h)) ((hcond0_1 t).mpr h1) _ _ _ _ _ _ _ _ _ _ _).trans ?_
  have hs : k0_pay70 (k0_pay1 (yAt m c t) (amaxAt m c t.val)) = ysAll m c := by
    rw [← amaxAt_succ, h1]; rfl
  exact hs

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  · by_cases h1 : t.val = 35
    · exact sound_C m c t h0 h1
    · exact sound_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the scratch back: its named contents are forgotten. -/
theorem hout (c : Dev nD) : (dats m 0 c).Φ (Fin.last cfg0.N) ⊢ Pipeline.ΦA spec0 c := by
  have hN : cfg0.N = 36 := N_0
  rw [show (dats m 0 c).Φ (Fin.last cfg0.N) = PhiS m c (Fin.last cfg0.N).val from rfl, PhiS_pos m c _ (by rw [Fin.val_last]; omega), PhiA0_eq]
  iintro ⟨⟨HS0, HS1, ⟨%Y, %hY, HS2⟩, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The run and the frame -/

-- `θ_run_frame_track`'s implicit arguments are found by unifying its conclusion with this one, which takes unfolding plain
-- definitions in a metavariable's type
set_option backward.isDefEq.respectTransparency.types false in
/-- The run of @main: every array of the pipeline ends at what the proof data say, every other buffer as the region
    found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel.Gen

end
-- ==== Proof.KernelIdeal.Runs.lean ====
/- What the runs of the kernel body share: its two branch conditions over the grid points, where its output windows are idle or written back, and the staging and scratch memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's first conditional, from the grid coordinates. -/
abbrev cond0_0 (i : grid0.Coords) : Prop := k0_cond1 i = 1#1
/-- It holds at the first point only. -/
theorem hcond0_0 : ∀ t : Fin cfg0.N, cond0_0 (grid0.coords t) ↔ t.val = 0 :=
  (fun t => by
    have ht : t.val < 36 := Nat.lt_of_lt_of_eq t.isLt N_0
    have e0 : (grid0.coords t 0).val = t.val / 1 % 36 := Pipeline.Grid.coords_val t 0 (by decide) rfl
    have h : cond0_0 (grid0.coords t) ↔ t.val % 36 = 0 := by
      simp only [cond0_0, k0_cond1, e0]
      word_cmp
    rw [h, Nat.mod_eq_of_lt ht]
   : ∀ t : Fin grid0.N, cond0_0 (grid0.coords t) ↔ t.val = 0)

/-- The condition of the body's second conditional, from the grid coordinates. -/
abbrev cond0_1 (i : grid0.Coords) : Prop := k0_cond2 i = 1#1
/-- It holds at the last point only. -/
theorem hcond0_1 : ∀ t : Fin cfg0.N, cond0_1 (grid0.coords t) ↔ t.val = 35 :=
  (fun t => by
    have ht : t.val < 36 := Nat.lt_of_lt_of_eq t.isLt N_0
    have e0 : (grid0.coords t 0).val = t.val / 1 % 36 := Pipeline.Grid.coords_val t 0 (by decide) rfl
    have h : cond0_1 (grid0.coords t) ↔ t.val % 36 = 35 := by
      simp only [cond0_1, k0_cond2, e0]
      word_cmp
    rw [h, Nat.mod_eq_of_lt ht]
   : ∀ t : Fin grid0.N, cond0_1 (grid0.coords t) ↔ t.val = 35)

/-- Window 0's current staging memref at point `t`, and its wholeness. -/
abbrev ms0_0 (t : Fin cfg0.N) : Memref sig .tc .vmem S256x7168 .bf16 := win0_0.stage (cfg0.slots t 0)
/-- Window 0's current staging memref is a whole buffer. -/
abbrev hs0_0 (t : Fin cfg0.N) : (ms0_0 t).IsWhole := hstage0_0 ((cfg0.slots t 0).cast nbuf0_0)
/-- Window 1's current staging memref at point `t`, and its wholeness. -/
abbrev ms0_1 (t : Fin cfg0.N) : Memref sig .tc .vmem S512x7168 .i8 := win0_1.stage (cfg0.slots t 1)
/-- Window 1's current staging memref is a whole buffer. -/
abbrev hs0_1 (t : Fin cfg0.N) : (ms0_1 t).IsWhole := hstage0_1 ((cfg0.slots t 1).cast nbuf0_1)
/-- Window 2's current staging memref at point `t`, and its wholeness. -/
abbrev ms0_2 (t : Fin cfg0.N) : Memref sig .tc .vmem S1x512 .f32 := win0_2.stage (cfg0.slots t 2)
/-- Window 2's current staging memref is a whole buffer. -/
abbrev hs0_2 (t : Fin cfg0.N) : (ms0_2 t).IsWhole := hstage0_2 ((cfg0.slots t 2).cast nbuf0_2)
/-- Window 3's current staging memref at point `t`, and its wholeness. -/
abbrev ms0_3 (t : Fin cfg0.N) : Memref sig .tc .vmem S1x512 .f32 := win0_3.stage (cfg0.slots t 3)
/-- Window 3's current staging memref is a whole buffer. -/
abbrev hs0_3 (t : Fin cfg0.N) : (ms0_3 t).IsWhole := hstage0_3 ((cfg0.slots t 3).cast nbuf0_3)
/-- Window 4's current staging memref at point `t`, and its wholeness. -/
abbrev ms0_4 (t : Fin cfg0.N) : Memref sig .tc .vmem S256x512 .bf16 := win0_4.stage (cfg0.slots t 4)
/-- Window 4's current staging memref is a whole buffer. -/
abbrev hs0_4 (t : Fin cfg0.N) : (ms0_4 t).IsWhole := hstage0_4 ((cfg0.slots t 4).cast nbuf0_4)
/-- Window 5's current staging memref at point `t`, and its wholeness. -/
abbrev ms0_5 (t : Fin cfg0.N) : Memref sig .tc .vmem S256x512 .bf16 := win0_5.stage (cfg0.slots t 5)
/-- Window 5's current staging memref is a whole buffer. -/
abbrev hs0_5 (t : Fin cfg0.N) : (ms0_5 t).IsWhole := hstage0_5 ((cfg0.slots t 5).cast nbuf0_5)
/-- Window 6's current staging memref at point `t`, and its wholeness. -/
abbrev ms0_6 (t : Fin cfg0.N) : Memref sig .tc .vmem S1x7168 .i32 := win0_6.stage (cfg0.slots t 6)
/-- Window 6's current staging memref is a whole buffer. -/
abbrev hs0_6 (t : Fin cfg0.N) : (ms0_6 t).IsWhole := hstage0_6 ((cfg0.slots t 6).cast nbuf0_6)
/-- Window 7's current staging memref at point `t`, and its wholeness. -/
abbrev ms0_7 (t : Fin cfg0.N) : Memref sig .tc .vmem S256x7168 .i8 := win0_7.stage (cfg0.slots t 7)
/-- Window 7's current staging memref is a whole buffer. -/
abbrev hs0_7 (t : Fin cfg0.N) : (ms0_7 t).IsWhole := hstage0_7 ((cfg0.slots t 7).cast nbuf0_7)
/-- Window 8's current staging memref at point `t`, and its wholeness. -/
abbrev ms0_8 (t : Fin cfg0.N) : Memref sig .tc .vmem S256x1 .f32 := win0_8.stage (cfg0.slots t 8)
/-- Window 8's current staging memref is a whole buffer. -/
abbrev hs0_8 (t : Fin cfg0.N) : (ms0_8 t).IsWhole := hstage0_8 ((cfg0.slots t 8).cast nbuf0_8)
/-- Window 9's current staging memref at point `t`, and its wholeness. -/
abbrev ms0_9 (t : Fin cfg0.N) : Memref sig .tc .vmem S256x18432 .i8 := win0_9.stage (cfg0.slots t 9)
/-- Window 9's current staging memref is a whole buffer. -/
abbrev hs0_9 (t : Fin cfg0.N) : (ms0_9 t).IsWhole := hstage0_9 ((cfg0.slots t 9).cast nbuf0_9)
/-- Window 10's current staging memref at point `t`, and its wholeness. -/
abbrev ms0_10 (t : Fin cfg0.N) : Memref sig .tc .vmem S256x1 .f32 := win0_10.stage (cfg0.slots t 10)
/-- Window 10's current staging memref is a whole buffer. -/
abbrev hs0_10 (t : Fin cfg0.N) : (ms0_10 t).IsWhole := hstage0_10 ((cfg0.slots t 10).cast nbuf0_10)
/-- Scratch operand 0: a whole scoped buffer of the kernel's own. -/
abbrev scM0_0 : Memref sig .tc .vmem S256x7168 .bf16 := Memref.whole cc0_scratch0
/-- Scratch operand 1: a whole scoped buffer of the kernel's own. -/
abbrev scM0_1 : Memref sig .tc .vmem S256x7168 .bf16 := Memref.whole cc0_scratch1
/-- Scratch operand 2: a whole scoped buffer of the kernel's own. -/
abbrev scM0_2 : Memref sig .tc .vmem S36x256x512 .bf16 := Memref.whole cc0_scratch2
/-- Scratch operand 3: a whole scoped buffer of the kernel's own. -/
abbrev scM0_3 : Memref sig .tc .vmem S256x1 .f32 := Memref.whole cc0_scratch3
/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- Output 6 is stored at the first point. -/
theorem liveAt0_6 : ∀ t : Fin cfg0.N, t.val = 0 → cfg0.idle 6 (grid0.coords t) = false := by decide +kernel
/-- Output 6 is idle at every later point. -/
theorem idleAt0_6 : ∀ t : Fin cfg0.N, t.val ≠ 0 → cfg0.idle 6 (grid0.coords t) = true := by decide +kernel
/-- Output 7 is stored at the first point. -/
theorem liveAt0_7 : ∀ t : Fin cfg0.N, t.val = 0 → cfg0.idle 7 (grid0.coords t) = false := by decide +kernel
/-- Output 7 is idle at every later point. -/
theorem idleAt0_7 : ∀ t : Fin cfg0.N, t.val ≠ 0 → cfg0.idle 7 (grid0.coords t) = true := by decide +kernel
/-- Output 8 is stored at the first point. -/
theorem liveAt0_8 : ∀ t : Fin cfg0.N, t.val = 0 → cfg0.idle 8 (grid0.coords t) = false := by decide +kernel
/-- Output 8 is idle at every later point. -/
theorem idleAt0_8 : ∀ t : Fin cfg0.N, t.val ≠ 0 → cfg0.idle 8 (grid0.coords t) = true := by decide +kernel
/-- Output 9 is stored at the last point. -/
theorem liveAt0_9 : ∀ t : Fin cfg0.N, t.val = 35 → cfg0.idle 9 (grid0.coords t) = false := by decide +kernel
/-- Output 9 is idle at every earlier point. -/
theorem idleAt0_9 : ∀ t : Fin cfg0.N, t.val ≠ 35 → cfg0.idle 9 (grid0.coords t) = true := by decide +kernel
/-- Output 10 is stored at the last point. -/
theorem liveAt0_10 : ∀ t : Fin cfg0.N, t.val = 35 → cfg0.idle 10 (grid0.coords t) = false := by decide +kernel
/-- Output 10 is idle at every earlier point. -/
theorem idleAt0_10 : ∀ t : Fin cfg0.N, t.val ≠ 35 → cfg0.idle 10 (grid0.coords t) = true := by decide +kernel
/-- Output 6 is not written back before the last point. -/
theorem noFlush0_6 : ∀ t : Fin cfg0.N, t.val ≠ 35 → (cfg0.win 6).flush t = false := by decide +kernel
/-- Output 7 is not written back before the last point. -/
theorem noFlush0_7 : ∀ t : Fin cfg0.N, t.val ≠ 35 → (cfg0.win 7).flush t = false := by decide +kernel
/-- Output 8 is not written back before the last point. -/
theorem noFlush0_8 : ∀ t : Fin cfg0.N, t.val ≠ 35 → (cfg0.win 8).flush t = false := by decide +kernel
/-- Output 9 is not written back before the last point. -/
theorem noFlush0_9 : ∀ t : Fin cfg0.N, t.val ≠ 35 → (cfg0.win 9).flush t = false := by decide +kernel
/-- Output 10 is not written back before the last point. -/
theorem noFlush0_10 : ∀ t : Fin cfg0.N, t.val ≠ 35 → (cfg0.win 10).flush t = false := by decide +kernel

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.KernelIdeal.RunA.lean ====
/- The body at the first point: the activations are quantised and the first block of outputs computed. -/
module

public import proofs.«01_k».proof.Proof.KernelIdeal.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point: the activations are quantised and the first block of outputs computed. The pieces each stored buffer ends with are the witness; the proof is the run of the body on whole
    memrefs, the inputs' at their contents and given back as they were. -/
noncomputable def kernelRun0_A (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    Σ' (L6 : List (View.Piece (Elt F) S256x512 .bf16)), Σ' (L7 : List (View.Piece (Elt F) S1x7168 .i32)), Σ' (L8 : List (View.Piece (Elt F) S256x7168 .i8)), Σ' (L9 : List (View.Piece (Elt F) S256x1 .f32)), Σ' (L12 : List (View.Piece (Elt F) S256x7168 .bf16)), Σ' (L13 : List (View.Piece (Elt F) S256x7168 .bf16)), Σ' (L15 : List (View.Piece (Elt F) S256x1 .f32)), { L14 : List (View.Piece (Elt F) S36x256x512 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg12 fullShare d) ∗ (∃ d, owns (c : Thread nD τ) arg13 fullShare d) ∗ (∃ d, owns (c : Thread nD τ) arg15 fullShare d) ∗ owns (c : Thread nD τ) arg14 fullShare x14
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg15.view.loc (c : Thread nD τ) ↦[arg15.view.set]{fullShare} arg15.view.writes (Elt F) f L15) ∗ (arg14.view.loc (c : Thread nD τ) ↦[arg14.view.set]{fullShare} arg14.view.writes (Elt F) (harg14.unread x14) L14)) -∗ K ⟨⟩))
          ⊢ wp frame (wpE (defs₀ (F := F)) Variants.none c none) E (cc0_int8_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, fun E K => ?run⟩
  case run =>
    simp only [cc0_int8_linear_eq_skeleton]; unfold cc0_int8_linear_skel
    simp only [k0_part22_eq_skeleton]; unfold k0_part22_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d12, %f12, -, H12⟩, ⟨%d13, %f13, -, H13⟩, ⟨%d15, %f15, -, H15⟩, ⟨%f14, %hf14, H14⟩, Hk⟩
    obtain rfl := harg1.eq_unread hf1; obtain rfl := harg2.eq_unread hf2; obtain rfl := harg3.eq_unread hf3; obtain rfl := harg4.eq_unread hf4; obtain rfl := harg5.eq_unread hf5; obtain rfl := harg14.eq_unread hf14
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]
    · iexists _; iexact H7
    isplitl [H8]
    · iexists _; iexact H8
    isplitl [H9]
    · iexists _; iexact H9
    isplitl [H12]
    · iexists _; iexact H12
    isplitl [H13]
    · iexists _; iexact H13
    isplitl [H15]
    · iexists _; iexact H15
    iexact H14

end Cert.KernelIdeal.Gen

end
-- ==== Proof.KernelIdeal.Values.lean ====
/- The arrays the kernel body leaves in its buffers, as functions of what it reads, and the stores that build them. -/
module

public import proofs.«01_k».proof.Proof.Tiles
public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Tiles Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A chunk of 1024 columns of the 256 activations' rows starts inside the array. -/
theorem inbX (n : ℕ) (h : n + 1024 ≤ 7168) : ∀ a, (![0, n] : Fin 2 → ℕ) a + S256x1024.size a ≤ S256x7168.size a := fun a => by
  match a with
  | ⟨0, _⟩ => exact Nat.le_refl _
  | ⟨1, _⟩ => exact h
/-- A chunk of 1024 columns of the row of outlier marks starts inside it. -/
theorem inbM (n : ℕ) (h : n + 1024 ≤ 7168) : ∀ a, (![0, n] : Fin 2 → ℕ) a + S1x1024.size a ≤ S1x7168.size a := fun a => by
  match a with
  | ⟨0, _⟩ => exact Nat.le_refl _
  | ⟨1, _⟩ => exact h
/-- A matrix of the stack of output blocks. -/
theorem inbY (k : ℕ) (h : k < 36) : ∀ a, (![k, 0, 0] : Fin 3 → ℕ) a + S1x256x512.size a ≤ S36x256x512.size a := fun a => by
  match a with
  | ⟨0, _⟩ => exact h
  | ⟨1, _⟩ => exact Nat.le_refl _
  | ⟨2, _⟩ => exact Nat.le_refl _

/-- The chunk of activations that starts at column `n`. -/
def xch (x1 : Vec F S256x7168 .bf16) (n : ℕ) (h : n + 1024 ≤ 7168) : Vec F S256x1024 .bf16 :=
  View.ld (S := S256x7168) x1 (Rect.unit (s := S256x7168) ![0, n] S256x1024.size (inbX n h))
/-- The chunk of outlier marks that starts at column `n`. -/
def mch (mk : Vec F S1x7168 .i32) (n : ℕ) (h : n + 1024 ≤ 7168) : Vec F S1x1024 .i32 :=
  View.ld (S := S1x7168) (Val := Elt F) (e' := .i32) mk (Rect.unit (s := S1x7168) ![0, n] S1x1024.size (inbM n h))

/-- The outlier marks of the columns. -/
def maskF (x1 : Vec F S256x7168 .bf16) : Vec F S1x7168 .i32 :=
  glue (α := BitVec 32) (by decide : 0 < 1024) (by decide) (fun n h => k0_pay6 (xch x1 n h))
/-- The outlier part of the activations. -/
def xoutF (x1 : Vec F S256x7168 .bf16) : Vec F S256x7168 .bf16 :=
  glue (α := F .bf16) (by decide : 0 < 1024) (by decide) (fun n h => k0_pay8 (xch x1 n h))
/-- The rows' largest magnitudes off the outlier columns, over the first six chunks. -/
def ax6F (x1 : Vec F S256x7168 .bf16) : FVec F S256x1 .f32 :=
  k0_pay37 (k0_pay31 (k0_pay19 (k0_pay7 (xch x1 0 (by decide))) (k0_pay10 (xch x1 1024 (by decide))) (FloatOps.ofBits .f32 0#32) (k0_pay13 (xch x1 1024 (by decide))) (xch x1 2048 (by decide)))
    (k0_pay21 (xch x1 3072 (by decide))) (xch x1 4096 (by decide))) (xch x1 5120 (by decide))
/-- The scales of the rows. -/
def xsF (x1 : Vec F S256x7168 .bf16) : Vec F S256x1 .f32 :=
  k0_pay45 (ax6F x1) (k0_pay40 (xch x1 6144 (by decide))) (k0_pay41 (xch x1 6144 (by decide))) (FloatOps.ofBits .f32 1086324736#32)
/-- The quantised activations, for given scales and marks. -/
def xcG (sc : Vec F S256x1 .f32) (mk : Vec F S1x7168 .i32) (x1 : Vec F S256x7168 .bf16) : Vec F S256x7168 .i8 :=
  glue (α := BitVec 8) (by decide : 0 < 1024) (by decide) (fun n h => k0_pay51 sc (mch mk n h) (xch x1 n h))
/-- The quantised activations as numbers, for given scales and marks. -/
def codesG (sc : Vec F S256x1 .f32) (mk : Vec F S1x7168 .i32) (x1 : Vec F S256x7168 .bf16) : Vec F S256x7168 .bf16 :=
  glue (α := F .bf16) (by decide : 0 < 1024) (by decide) (fun n h => k0_pay52 sc (mch mk n h) (xch x1 n h))
/-- The quantised activations. -/
def xcF (x1 : Vec F S256x7168 .bf16) : Vec F S256x7168 .i8 := xcG (xsF x1) (maskF x1) x1
/-- The quantised activations as numbers. -/
def codesF (x1 : Vec F S256x7168 .bf16) : Vec F S256x7168 .bf16 := codesG (xsF x1) (maskF x1) x1
/-- The quantised outputs, for given scales and a stack of output blocks. -/
def ycF (sc : Vec F S256x1 .f32) (Y : Vec F S36x256x512 .bf16) : Vec F S256x18432 .i8 :=
  glue (α := BitVec 8) (by decide : 0 < 512) (by decide) (fun n h => k0_pay2 sc
    (View.ld (S := S36x256x512) Y (Rect.unit (s := S36x256x512) ![n / 512, 0, 0] S1x256x512.size (inbY (n / 512) (by omega)))))

/-- The stores of the outlier marks, last first. -/
def L7x (x1 : Vec F S256x7168 .bf16) : List (View.Piece (Elt F) S1x7168 .i32) :=
  [⟨Rect.unit (s := S1x7168) ![0, 6144] S1x1024.size (inbM 6144 (by decide)), k0_pay43 (k0_pay41 (xch x1 6144 (by decide))) (FloatOps.ofBits .f32 1086324736#32)⟩,
   ⟨Rect.unit (s := S1x7168) ![0, 5120] S1x1024.size (inbM 5120 (by decide)), k0_pay36 (xch x1 5120 (by decide))⟩,
   ⟨Rect.unit (s := S1x7168) ![0, 4096] S1x1024.size (inbM 4096 (by decide)), k0_pay30 (xch x1 4096 (by decide))⟩,
   ⟨Rect.unit (s := S1x7168) ![0, 3072] S1x1024.size (inbM 3072 (by decide)), k0_pay25 (k0_pay21 (xch x1 3072 (by decide)))⟩,
   ⟨Rect.unit (s := S1x7168) ![0, 2048] S1x1024.size (inbM 2048 (by decide)), k0_pay18 (xch x1 2048 (by decide))⟩,
   ⟨Rect.unit (s := S1x7168) ![0, 1024] S1x1024.size (inbM 1024 (by decide)), k0_pay12 (xch x1 1024 (by decide))⟩,
   ⟨Rect.unit (s := S1x7168) ![0, 0] S1x1024.size (inbM 0 (by decide)), k0_pay6 (xch x1 0 (by decide))⟩]
/-- They cover the array, -/
theorem L7x_cover (x1 : Vec F S256x7168 .bf16) : ∀ y, ∃ p ∈ L7x (F := F) x1, y ∈ p.1.set :=
  View.cover_of_tiledL _ S1x1024.size (by sl_kernel_rfl)
/-- and build the marks as stated above. -/
theorem canon_L7x (x1 : Vec F S256x7168 .bf16) : View.canon (L7x (F := F) x1) = maskF x1 := by
  funext y
  refine View.canon_eq_of_allAt _ _ _ (L7x_cover (F := F) x1 y) ?_
  refine allAt_cons_glue (Val := Elt F) (e := .i32) (r := 1) (w := 1024) (N := 7168) (by decide) (by decide) (fun n h => k0_pay6 (xch x1 n h)) y 6144 (by decide) (by decide) _ _ ?_
  refine allAt_cons_glue (Val := Elt F) (e := .i32) (r := 1) (w := 1024) (N := 7168) (by decide) (by decide) (fun n h => k0_pay6 (xch x1 n h)) y 5120 (by decide) (by decide) _ _ ?_
  refine allAt_cons_glue (Val := Elt F) (e := .i32) (r := 1) (w := 1024) (N := 7168) (by decide) (by decide) (fun n h => k0_pay6 (xch x1 n h)) y 4096 (by decide) (by decide) _ _ ?_
  refine allAt_cons_glue (Val := Elt F) (e := .i32) (r := 1) (w := 1024) (N := 7168) (by decide) (by decide) (fun n h => k0_pay6 (xch x1 n h)) y 3072 (by decide) (by decide) _ _ ?_
  refine allAt_cons_glue (Val := Elt F) (e := .i32) (r := 1) (w := 1024) (N := 7168) (by decide) (by decide) (fun n h => k0_pay6 (xch x1 n h)) y 2048 (by decide) (by decide) _ _ ?_
  refine allAt_cons_glue (Val := Elt F) (e := .i32) (r := 1) (w := 1024) (N := 7168) (by decide) (by decide) (fun n h => k0_pay6 (xch x1 n h)) y 1024 (by decide) (by decide) _ _ ?_
  refine allAt_cons_glue (Val := Elt F) (e := .i32) (r := 1) (w := 1024) (N := 7168) (by decide) (by decide) (fun n h => k0_pay6 (xch x1 n h)) y 0 (by decide) (by decide) _ _ ?_
  exact View.allAt_nil _ _

/-- The stores of the outlier part, last first. -/
def L13x (x1 : Vec F S256x7168 .bf16) : List (View.Piece (Elt F) S256x7168 .bf16) :=
  [⟨Rect.unit (s := S256x7168) ![0, 6144] S256x1024.size (inbX 6144 (by decide)), k0_pay44 (k0_pay39 (xch x1 6144 (by decide))) (k0_pay41 (xch x1 6144 (by decide))) (FloatOps.ofBits .f32 1086324736#32)⟩,
   ⟨Rect.unit (s := S256x7168) ![0, 5120] S256x1024.size (inbX 5120 (by decide)), k0_pay38 (xch x1 5120 (by decide))⟩,
   ⟨Rect.unit (s := S256x7168) ![0, 4096] S256x1024.size (inbX 4096 (by decide)), k0_pay32 (k0_pay27 (xch x1 4096 (by decide))) (k0_pay29 (xch x1 4096 (by decide)))⟩,
   ⟨Rect.unit (s := S256x7168) ![0, 3072] S256x1024.size (inbX 3072 (by decide)), k0_pay26 (k0_pay21 (xch x1 3072 (by decide)))⟩,
   ⟨Rect.unit (s := S256x7168) ![0, 2048] S256x1024.size (inbX 2048 (by decide)), k0_pay20 (xch x1 2048 (by decide))⟩,
   ⟨Rect.unit (s := S256x7168) ![0, 1024] S256x1024.size (inbX 1024 (by decide)), k0_pay14 (k0_pay9 (xch x1 1024 (by decide))) (k0_pay11 (xch x1 1024 (by decide)))⟩,
   ⟨Rect.unit (s := S256x7168) ![0, 0] S256x1024.size (inbX 0 (by decide)), k0_pay8 (xch x1 0 (by decide))⟩]
/-- They cover the array, -/
theorem L13x_cover (x1 : Vec F S256x7168 .bf16) : ∀ y, ∃ p ∈ L13x (F := F) x1, y ∈ p.1.set :=
  View.cover_of_tiledL _ S256x1024.size (by sl_kernel_rfl)
/-- and build it as stated above. -/
theorem canon_L13x (x1 : Vec F S256x7168 .bf16) : View.canon (L13x (F := F) x1) = xoutF x1 := by
  funext y
  refine View.canon_eq_of_allAt _ _ _ (L13x_cover (F := F) x1 y) ?_
  refine allAt_cons_glue (Val := Elt F) (e := .bf16) (r := 256) (w := 1024) (N := 7168) (by decide) (by decide) (fun n h => k0_pay8 (xch x1 n h)) y 6144 (by decide) (by decide) _ _ ?_
  refine allAt_cons_glue (Val := Elt F) (e := .bf16) (r := 256) (w := 1024) (N := 7168) (by decide) (by decide) (fun n h => k0_pay8 (xch x1 n h)) y 5120 (by decide) (by decide) _ _ ?_
  refine allAt_cons_glue (Val := Elt F) (e := .bf16) (r := 256) (w := 1024) (N := 7168) (by decide) (by decide) (fun n h => k0_pay8 (xch x1 n h)) y 4096 (by decide) (by decide) _ _ ?_
  refine allAt_cons_glue (Val := Elt F) (e := .bf16) (r := 256) (w := 1024) (N := 7168) (by decide) (by decide) (fun n h => k0_pay8 (xch x1 n h)) y 3072 (by decide) (by decide) _ _ ?_
  refine allAt_cons_glue (Val := Elt F) (e := .bf16) (r := 256) (w := 1024) (N := 7168) (by decide) (by decide) (fun n h => k0_pay8 (xch x1 n h)) y 2048 (by decide) (by decide) _ _ ?_
  refine allAt_cons_glue (Val := Elt F) (e := .bf16) (r := 256) (w := 1024) (N := 7168) (by decide) (by decide) (fun n h => k0_pay8 (xch x1 n h)) y 1024 (by decide) (by decide) _ _ ?_
  refine allAt_cons_glue (Val := Elt F) (e := .bf16) (r := 256) (w := 1024) (N := 7168) (by decide) (by decide) (fun n h => k0_pay8 (xch x1 n h)) y 0 (by decide) (by decide) _ _ ?_
  exact View.allAt_nil _ _

/-- The stores of the quantised activations, last first. -/
def L8x (mk : Vec F S1x7168 .i32) (x1 : Vec F S256x7168 .bf16) : List (View.Piece (Elt F) S256x7168 .i8) :=
  [⟨Rect.unit (s := S256x7168) ![0, 6144] S256x1024.size (inbX 6144 (by decide)), k0_pay69 (xsF x1) (mch mk 6144 (by decide)) (xch x1 6144 (by decide))⟩,
   ⟨Rect.unit (s := S256x7168) ![0, 5120] S256x1024.size (inbX 5120 (by decide)), k0_pay66 (xsF x1) (k0_pay64 (mch mk 5120 (by decide))) (xch x1 5120 (by decide))⟩,
   ⟨Rect.unit (s := S256x7168) ![0, 4096] S256x1024.size (inbX 4096 (by decide)), k0_pay62 (xsF x1) (mch mk 4096 (by decide)) (xch x1 4096 (by decide))⟩,
   ⟨Rect.unit (s := S256x7168) ![0, 3072] S256x1024.size (inbX 3072 (by decide)), k0_pay59 (k0_pay56 (xsF x1) (mch mk 3072 (by decide)) (xch x1 3072 (by decide))) k0_pay57⟩,
   ⟨Rect.unit (s := S256x7168) ![0, 2048] S256x1024.size (inbX 2048 (by decide)), k0_pay54 (xsF x1) (mch mk 2048 (by decide)) (xch x1 2048 (by decide))⟩,
   ⟨Rect.unit (s := S256x7168) ![0, 1024] S256x1024.size (inbX 1024 (by decide)), k0_pay51 (xsF x1) (mch mk 1024 (by decide)) (xch x1 1024 (by decide))⟩,
   ⟨Rect.unit (s := S256x7168) ![0, 0] S256x1024.size (inbX 0 (by decide)), k0_pay48 (k0_pay46 (ax6F x1) (k0_pay40 (xch x1 6144 (by decide))) (k0_pay41 (xch x1 6144 (by decide))) (FloatOps.ofBits .f32 1086324736#32) (mch mk 0 (by decide)) (xch x1 0 (by decide)))⟩]
/-- They cover the array, -/
theorem L8x_cover (mk : Vec F S1x7168 .i32) (x1 : Vec F S256x7168 .bf16) : ∀ y, ∃ p ∈ L8x (F := F) mk x1, y ∈ p.1.set :=
  View.cover_of_tiledL _ S256x1024.size (by sl_kernel_rfl)
/-- and build it as stated above. -/
theorem canon_L8x (mk : Vec F S1x7168 .i32) (x1 : Vec F S256x7168 .bf16) : View.canon (L8x (F := F) mk x1) = xcG (xsF x1) mk x1 := by
  funext y
  refine View.canon_eq_of_allAt _ _ _ (L8x_cover (F := F) mk x1 y) ?_
  refine allAt_cons_glue (Val := Elt F) (e := .i8) (r := 256) (w := 1024) (N := 7168) (by decide) (by decide) (fun n h => k0_pay51 (xsF x1) (mch mk n h) (xch x1 n h)) y 6144 (by decide) (by decide) _ _ ?_
  refine allAt_cons_glue (Val := Elt F) (e := .i8) (r := 256) (w := 1024) (N := 7168) (by decide) (by decide) (fun n h => k0_pay51 (xsF x1) (mch mk n h) (xch x1 n h)) y 5120 (by decide) (by decide) _ _ ?_
  refine allAt_cons_glue (Val := Elt F) (e := .i8) (r := 256) (w := 1024) (N := 7168) (by decide) (by decide) (fun n h => k0_pay51 (xsF x1) (mch mk n h) (xch x1 n h)) y 4096 (by decide) (by decide) _ _ ?_
  refine allAt_cons_glue (Val := Elt F) (e := .i8) (r := 256) (w := 1024) (N := 7168) (by decide) (by decide) (fun n h => k0_pay51 (xsF x1) (mch mk n h) (xch x1 n h)) y 3072 (by decide) (by decide) _ _ ?_
  refine allAt_cons_glue (Val := Elt F) (e := .i8) (r := 256) (w := 1024) (N := 7168) (by decide) (by decide) (fun n h => k0_pay51 (xsF x1) (mch mk n h) (xch x1 n h)) y 2048 (by decide) (by decide) _ _ ?_
  refine allAt_cons_glue (Val := Elt F) (e := .i8) (r := 256) (w := 1024) (N := 7168) (by decide) (by decide) (fun n h => k0_pay51 (xsF x1) (mch mk n h) (xch x1 n h)) y 1024 (by decide) (by decide) _ _ ?_
  refine allAt_cons_glue (Val := Elt F) (e := .i8) (r := 256) (w := 1024) (N := 7168) (by decide) (by decide) (fun n h => k0_pay51 (xsF x1) (mch mk n h) (xch x1 n h)) y 0 (by decide) (by decide) _ _ ?_
  exact View.allAt_nil _ _

/-- The stores of the quantised activations as numbers, last first. -/
def L12x (mk : Vec F S1x7168 .i32) (x1 : Vec F S256x7168 .bf16) : List (View.Piece (Elt F) S256x7168 .bf16) :=
  [⟨Rect.unit (s := S256x7168) ![0, 6144] S256x1024.size (inbX 6144 (by decide)), k0_pay106 (k0_pay68 (xsF x1) (mch mk 6144 (by decide)) (xch x1 6144 (by decide)))⟩,
   ⟨Rect.unit (s := S256x7168) ![0, 5120] S256x1024.size (inbX 5120 (by decide)), k0_pay67 (xsF x1) (k0_pay64 (mch mk 5120 (by decide))) (xch x1 5120 (by decide))⟩,
   ⟨Rect.unit (s := S256x7168) ![0, 4096] S256x1024.size (inbX 4096 (by decide)), k0_pay63 (xsF x1) (mch mk 4096 (by decide)) (xch x1 4096 (by decide))⟩,
   ⟨Rect.unit (s := S256x7168) ![0, 3072] S256x1024.size (inbX 3072 (by decide)), k0_pay60 (k0_pay56 (xsF x1) (mch mk 3072 (by decide)) (xch x1 3072 (by decide))) k0_pay57⟩,
   ⟨Rect.unit (s := S256x7168) ![0, 2048] S256x1024.size (inbX 2048 (by decide)), k0_pay55 (xsF x1) (mch mk 2048 (by decide)) (xch x1 2048 (by decide))⟩,
   ⟨Rect.unit (s := S256x7168) ![0, 1024] S256x1024.size (inbX 1024 (by decide)), k0_pay52 (xsF x1) (mch mk 1024 (by decide)) (xch x1 1024 (by decide))⟩,
   ⟨Rect.unit (s := S256x7168) ![0, 0] S256x1024.size (inbX 0 (by decide)), k0_pay49 (k0_pay46 (ax6F x1) (k0_pay40 (xch x1 6144 (by decide))) (k0_pay41 (xch x1 6144 (by decide))) (FloatOps.ofBits .f32 1086324736#32) (mch mk 0 (by decide)) (xch x1 0 (by decide)))⟩]
/-- They cover the array, -/
theorem L12x_cover (mk : Vec F S1x7168 .i32) (x1 : Vec F S256x7168 .bf16) : ∀ y, ∃ p ∈ L12x (F := F) mk x1, y ∈ p.1.set :=
  View.cover_of_tiledL _ S256x1024.size (by sl_kernel_rfl)
/-- and build it as stated above. -/
theorem canon_L12x (mk : Vec F S1x7168 .i32) (x1 : Vec F S256x7168 .bf16) : View.canon (L12x (F := F) mk x1) = codesG (xsF x1) mk x1 := by
  funext y
  refine View.canon_eq_of_allAt _ _ _ (L12x_cover (F := F) mk x1 y) ?_
  refine allAt_cons_glue (Val := Elt F) (e := .bf16) (r := 256) (w := 1024) (N := 7168) (by decide) (by decide) (fun n h => k0_pay52 (xsF x1) (mch mk n h) (xch x1 n h)) y 6144 (by decide) (by decide) _ _ ?_
  refine allAt_cons_glue (Val := Elt F) (e := .bf16) (r := 256) (w := 1024) (N := 7168) (by decide) (by decide) (fun n h => k0_pay52 (xsF x1) (mch mk n h) (xch x1 n h)) y 5120 (by decide) (by decide) _ _ ?_
  refine allAt_cons_glue (Val := Elt F) (e := .bf16) (r := 256) (w := 1024) (N := 7168) (by decide) (by decide) (fun n h => k0_pay52 (xsF x1) (mch mk n h) (xch x1 n h)) y 4096 (by decide) (by decide) _ _ ?_
  refine allAt_cons_glue (Val := Elt F) (e := .bf16) (r := 256) (w := 1024) (N := 7168) (by decide) (by decide) (fun n h => k0_pay52 (xsF x1) (mch mk n h) (xch x1 n h)) y 3072 (by decide) (by decide) _ _ ?_
  refine allAt_cons_glue (Val := Elt F) (e := .bf16) (r := 256) (w := 1024) (N := 7168) (by decide) (by decide) (fun n h => k0_pay52 (xsF x1) (mch mk n h) (xch x1 n h)) y 2048 (by decide) (by decide) _ _ ?_
  refine allAt_cons_glue (Val := Elt F) (e := .bf16) (r := 256) (w := 1024) (N := 7168) (by decide) (by decide) (fun n h => k0_pay52 (xsF x1) (mch mk n h) (xch x1 n h)) y 1024 (by decide) (by decide) _ _ ?_
  refine allAt_cons_glue (Val := Elt F) (e := .bf16) (r := 256) (w := 1024) (N := 7168) (by decide) (by decide) (fun n h => k0_pay52 (xsF x1) (mch mk n h) (xch x1 n h)) y 0 (by decide) (by decide) _ _ ?_
  exact View.allAt_nil _ _

/-- The block of outputs of equal arguments. -/
theorem pay108_congr {a a' : Vec F S512x7168 .i8} {b b' : Vec F S256x7168 .bf16} {c c' : Vec F S256x7168 .bf16} {d d' : Vec F S256x1 .f32} {e e' : Vec F S1x512 .f32} {f f' : Vec F S1x512 .f32} {g g' : Vec F S256x512 .bf16}
    (ha : a = a') (hb : b = b') (hc : c = c') (hd : d = d') (he : e = e') (hf : f = f') (hg : g = g') :
    k0_pay108 a b c d e f g = k0_pay108 a' b' c' d' e' f' g' := by
  subst ha hb hc hd he hf hg; rfl

/-- A block of 512 columns of the outputs starts inside the array. -/
theorem inbC (n : ℕ) (h : n + 512 ≤ 18432) : ∀ a, (![0, n] : Fin 2 → ℕ) a + S256x512.size a ≤ S256x18432.size a := fun a => by
  match a with
  | ⟨0, _⟩ => exact Nat.le_refl _
  | ⟨1, _⟩ => exact h

/-- The stores of the quantised outputs, last first: `a` the rows' largest magnitudes, `Y` the stack of output blocks. -/
def L10x (a : Vec F S256x1 .f32) (Y : Vec F S36x256x512 .bf16) : List (View.Piece (Elt F) S256x18432 .i8) :=
  [⟨Rect.unit (s := S256x18432) ![0, 17920] S256x512.size (inbC 17920 (by decide)), k0_pay2 (k0_pay70 a) (View.ld (S := S36x256x512) Y (Rect.unit (s := S36x256x512) ![35, 0, 0] S1x256x512.size (inbY 35 (by decide))))⟩,
   ⟨Rect.unit (s := S256x18432) ![0, 17408] S256x512.size (inbC 17408 (by decide)), k0_pay105 (k0_pay70 a) (View.ld (S := S36x256x512) Y (Rect.unit (s := S36x256x512) ![34, 0, 0] S1x256x512.size (inbY 34 (by decide))))⟩,
   ⟨Rect.unit (s := S256x18432) ![0, 16896] S256x512.size (inbC 16896 (by decide)), k0_pay104 (k0_pay70 a) (View.ld (S := S36x256x512) Y (Rect.unit (s := S36x256x512) ![33, 0, 0] S1x256x512.size (inbY 33 (by decide))))⟩,
   ⟨Rect.unit (s := S256x18432) ![0, 16384] S256x512.size (inbC 16384 (by decide)), k0_pay103 (k0_pay70 a) (View.ld (S := S36x256x512) Y (Rect.unit (s := S36x256x512) ![32, 0, 0] S1x256x512.size (inbY 32 (by decide))))⟩,
   ⟨Rect.unit (s := S256x18432) ![0, 15872] S256x512.size (inbC 15872 (by decide)), k0_pay102 (k0_pay70 a) (View.ld (S := S36x256x512) Y (Rect.unit (s := S36x256x512) ![31, 0, 0] S1x256x512.size (inbY 31 (by decide))))⟩,
   ⟨Rect.unit (s := S256x18432) ![0, 15360] S256x512.size (inbC 15360 (by decide)), k0_pay101 (k0_pay70 a) (View.ld (S := S36x256x512) Y (Rect.unit (s := S36x256x512) ![30, 0, 0] S1x256x512.size (inbY 30 (by decide))))⟩,
   ⟨Rect.unit (s := S256x18432) ![0, 14848] S256x512.size (inbC 14848 (by decide)), k0_pay100 (k0_pay70 a) (View.ld (S := S36x256x512) Y (Rect.unit (s := S36x256x512) ![29, 0, 0] S1x256x512.size (inbY 29 (by decide))))⟩,
   ⟨Rect.unit (s := S256x18432) ![0, 14336] S256x512.size (inbC 14336 (by decide)), k0_pay99 (k0_pay70 a) (View.ld (S := S36x256x512) Y (Rect.unit (s := S36x256x512) ![28, 0, 0] S1x256x512.size (inbY 28 (by decide))))⟩,
   ⟨Rect.unit (s := S256x18432) ![0, 13824] S256x512.size (inbC 13824 (by decide)), k0_pay98 (k0_pay70 a) (View.ld (S := S36x256x512) Y (Rect.unit (s := S36x256x512) ![27, 0, 0] S1x256x512.size (inbY 27 (by decide))))⟩,
   ⟨Rect.unit (s := S256x18432) ![0, 13312] S256x512.size (inbC 13312 (by decide)), k0_pay97 (k0_pay70 a) (View.ld (S := S36x256x512) Y (Rect.unit (s := S36x256x512) ![26, 0, 0] S1x256x512.size (inbY 26 (by decide))))⟩,
   ⟨Rect.unit (s := S256x18432) ![0, 12800] S256x512.size (inbC 12800 (by decide)), k0_pay96 (k0_pay70 a) (View.ld (S := S36x256x512) Y (Rect.unit (s := S36x256x512) ![25, 0, 0] S1x256x512.size (inbY 25 (by decide))))⟩,
   ⟨Rect.unit (s := S256x18432) ![0, 12288] S256x512.size (inbC 12288 (by decide)), k0_pay95 (k0_pay70 a) (View.ld (S := S36x256x512) Y (Rect.unit (s := S36x256x512) ![24, 0, 0] S1x256x512.size (inbY 24 (by decide))))⟩,
   ⟨Rect.unit (s := S256x18432) ![0, 11776] S256x512.size (inbC 11776 (by decide)), k0_pay94 (k0_pay70 a) (View.ld (S := S36x256x512) Y (Rect.unit (s := S36x256x512) ![23, 0, 0] S1x256x512.size (inbY 23 (by decide))))⟩,
   ⟨Rect.unit (s := S256x18432) ![0, 11264] S256x512.size (inbC 11264 (by decide)), k0_pay93 (k0_pay70 a) (View.ld (S := S36x256x512) Y (Rect.unit (s := S36x256x512) ![22, 0, 0] S1x256x512.size (inbY 22 (by decide))))⟩,
   ⟨Rect.unit (s := S256x18432) ![0, 10752] S256x512.size (inbC 10752 (by decide)), k0_pay92 (k0_pay70 a) (View.ld (S := S36x256x512) Y (Rect.unit (s := S36x256x512) ![21, 0, 0] S1x256x512.size (inbY 21 (by decide))))⟩,
   ⟨Rect.unit (s := S256x18432) ![0, 10240] S256x512.size (inbC 10240 (by decide)), k0_pay91 (k0_pay70 a) (View.ld (S := S36x256x512) Y (Rect.unit (s := S36x256x512) ![20, 0, 0] S1x256x512.size (inbY 20 (by decide))))⟩,
   ⟨Rect.unit (s := S256x18432) ![0, 9728] S256x512.size (inbC 9728 (by decide)), k0_pay90 (k0_pay70 a) (View.ld (S := S36x256x512) Y (Rect.unit (s := S36x256x512) ![19, 0, 0] S1x256x512.size (inbY 19 (by decide))))⟩,
   ⟨Rect.unit (s := S256x18432) ![0, 9216] S256x512.size (inbC 9216 (by decide)), k0_pay89 (k0_pay70 a) (View.ld (S := S36x256x512) Y (Rect.unit (s := S36x256x512) ![18, 0, 0] S1x256x512.size (inbY 18 (by decide))))⟩,
   ⟨Rect.unit (s := S256x18432) ![0, 8704] S256x512.size (inbC 8704 (by decide)), k0_pay88 (k0_pay70 a) (View.ld (S := S36x256x512) Y (Rect.unit (s := S36x256x512) ![17, 0, 0] S1x256x512.size (inbY 17 (by decide))))⟩,
   ⟨Rect.unit (s := S256x18432) ![0, 8192] S256x512.size (inbC 8192 (by decide)), k0_pay87 (k0_pay70 a) (View.ld (S := S36x256x512) Y (Rect.unit (s := S36x256x512) ![16, 0, 0] S1x256x512.size (inbY 16 (by decide))))⟩,
   ⟨Rect.unit (s := S256x18432) ![0, 7680] S256x512.size (inbC 7680 (by decide)), k0_pay86 (k0_pay70 a) (View.ld (S := S36x256x512) Y (Rect.unit (s := S36x256x512) ![15, 0, 0] S1x256x512.size (inbY 15 (by decide))))⟩,
   ⟨Rect.unit (s := S256x18432) ![0, 7168] S256x512.size (inbC 7168 (by decide)), k0_pay85 (k0_pay70 a) (View.ld (S := S36x256x512) Y (Rect.unit (s := S36x256x512) ![14, 0, 0] S1x256x512.size (inbY 14 (by decide))))⟩,
   ⟨Rect.unit (s := S256x18432) ![0, 6656] S256x512.size (inbC 6656 (by decide)), k0_pay84 (k0_pay70 a) (View.ld (S := S36x256x512) Y (Rect.unit (s := S36x256x512) ![13, 0, 0] S1x256x512.size (inbY 13 (by decide))))⟩,
   ⟨Rect.unit (s := S256x18432) ![0, 6144] S256x512.size (inbC 6144 (by decide)), k0_pay83 (k0_pay70 a) (View.ld (S := S36x256x512) Y (Rect.unit (s := S36x256x512) ![12, 0, 0] S1x256x512.size (inbY 12 (by decide))))⟩,
   ⟨Rect.unit (s := S256x18432) ![0, 5632] S256x512.size (inbC 5632 (by decide)), k0_pay82 (k0_pay70 a) (View.ld (S := S36x256x512) Y (Rect.unit (s := S36x256x512) ![11, 0, 0] S1x256x512.size (inbY 11 (by decide))))⟩,
   ⟨Rect.unit (s := S256x18432) ![0, 5120] S256x512.size (inbC 5120 (by decide)), k0_pay81 (k0_pay70 a) (View.ld (S := S36x256x512) Y (Rect.unit (s := S36x256x512) ![10, 0, 0] S1x256x512.size (inbY 10 (by decide))))⟩,
   ⟨Rect.unit (s := S256x18432) ![0, 4608] S256x512.size (inbC 4608 (by decide)), k0_pay80 (k0_pay70 a) (View.ld (S := S36x256x512) Y (Rect.unit (s := S36x256x512) ![9, 0, 0] S1x256x512.size (inbY 9 (by decide))))⟩,
   ⟨Rect.unit (s := S256x18432) ![0, 4096] S256x512.size (inbC 4096 (by decide)), k0_pay79 (k0_pay70 a) (View.ld (S := S36x256x512) Y (Rect.unit (s := S36x256x512) ![8, 0, 0] S1x256x512.size (inbY 8 (by decide))))⟩,
   ⟨Rect.unit (s := S256x18432) ![0, 3584] S256x512.size (inbC 3584 (by decide)), k0_pay78 (k0_pay70 a) (View.ld (S := S36x256x512) Y (Rect.unit (s := S36x256x512) ![7, 0, 0] S1x256x512.size (inbY 7 (by decide))))⟩,
   ⟨Rect.unit (s := S256x18432) ![0, 3072] S256x512.size (inbC 3072 (by decide)), k0_pay77 (k0_pay70 a) (View.ld (S := S36x256x512) Y (Rect.unit (s := S36x256x512) ![6, 0, 0] S1x256x512.size (inbY 6 (by decide))))⟩,
   ⟨Rect.unit (s := S256x18432) ![0, 2560] S256x512.size (inbC 2560 (by decide)), k0_pay76 (k0_pay70 a) (View.ld (S := S36x256x512) Y (Rect.unit (s := S36x256x512) ![5, 0, 0] S1x256x512.size (inbY 5 (by decide))))⟩,
   ⟨Rect.unit (s := S256x18432) ![0, 2048] S256x512.size (inbC 2048 (by decide)), k0_pay75 (k0_pay70 a) (View.ld (S := S36x256x512) Y (Rect.unit (s := S36x256x512) ![4, 0, 0] S1x256x512.size (inbY 4 (by decide))))⟩,
   ⟨Rect.unit (s := S256x18432) ![0, 1536] S256x512.size (inbC 1536 (by decide)), k0_pay74 (k0_pay70 a) (View.ld (S := S36x256x512) Y (Rect.unit (s := S36x256x512) ![3, 0, 0] S1x256x512.size (inbY 3 (by decide))))⟩,
   ⟨Rect.unit (s := S256x18432) ![0, 1024] S256x512.size (inbC 1024 (by decide)), k0_pay73 (k0_pay70 a) (View.ld (S := S36x256x512) Y (Rect.unit (s := S36x256x512) ![2, 0, 0] S1x256x512.size (inbY 2 (by decide))))⟩,
   ⟨Rect.unit (s := S256x18432) ![0, 512] S256x512.size (inbC 512 (by decide)), k0_pay72 a (View.ld (S := S36x256x512) Y (Rect.unit (s := S36x256x512) ![1, 0, 0] S1x256x512.size (inbY 1 (by decide))))⟩,
   ⟨Rect.unit (s := S256x18432) ![0, 0] S256x512.size (inbC 0 (by decide)), k0_pay71 a (View.ld (S := S36x256x512) Y (Rect.unit (s := S36x256x512) ![0, 0, 0] S1x256x512.size (inbY 0 (by decide))))⟩]
/-- They cover the array, -/
theorem L10x_cover (a : Vec F S256x1 .f32) (Y : Vec F S36x256x512 .bf16) : ∀ y, ∃ p ∈ L10x (F := F) a Y, y ∈ p.1.set :=
  View.cover_of_tiledL _ S256x512.size (by sl_kernel_rfl)
/-- and build it as stated above. -/
theorem canon_L10x (a : Vec F S256x1 .f32) (Y : Vec F S36x256x512 .bf16) : View.canon (L10x (F := F) a Y) = ycF (k0_pay70 a) Y := by
  funext y
  refine View.canon_eq_of_allAt _ _ _ (L10x_cover (F := F) a Y y) ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 17920 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 17408 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 16896 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 16384 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 15872 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 15360 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 14848 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 14336 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 13824 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 13312 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 12800 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 12288 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 11776 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 11264 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 10752 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 10240 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 9728 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 9216 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 8704 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 8192 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 7680 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 7168 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 6656 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 6144 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 5632 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 5120 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 4608 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 4096 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 3584 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 3072 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 2560 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 2048 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 1536 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 1024 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 512 (by decide) (by decide) _ _ ?_
  refine allAt_cons_glue (Val := Elt F) (e := .i8) (r := 256) (w := 512) (N := 18432) (by decide) (by decide) (fun n h => k0_pay2 (k0_pay70 a) (View.ld (S := S36x256x512) Y (Rect.unit (s := S36x256x512) ![n / 512, 0, 0] S1x256x512.size (inbY (n / 512) (by omega))))) y 0 (by decide) (by decide) _ _ ?_
  exact View.allAt_nil _ _

end Cert.KernelIdeal.Gen

end
-- ==== Proof.KernelIdeal.ReadA.lean ====
/- What the buffers read after the body's run at the first point. -/
module

public import proofs.«01_k».proof.Proof.KernelIdeal.RunA
public import proofs.«01_k».proof.Proof.KernelIdeal.Values

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Tiles Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The writes that the body makes at the first point to the buffer of the outlier marks. -/
theorem runA_7 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.1 = L7x (arg1.view.read (Elt F) (harg1.unread x1)) := by
  rfl

set_option maxHeartbeats 2000000 in
/-- The writes that the body makes at the first point to the buffer of the codes of the activations. -/
theorem runA_8 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.1 = L8x (arg7.view.read (Elt F) (arg7.view.writes (Elt F) arg7.view.junk (L7x (arg1.view.read (Elt F) (harg1.unread x1))))) (arg1.view.read (Elt F) (harg1.unread x1)) := by
  rfl

set_option maxHeartbeats 2000000 in
/-- The writes that the body makes at the first point to the buffer of the scales of the activations. -/
theorem runA_9 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.1 = [⟨(Rect.unit (s := S256x1) ![0, 0] S256x1.size inb_S256x1_S256x1_0_0), xsF (arg1.view.read (Elt F) (harg1.unread x1))⟩] := by
  rfl

set_option maxHeartbeats 2000000 in
/-- The writes that the body makes at the first point to the buffer of the quantised part of the activations, in scratch. -/
theorem runA_12 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.1 = (L12x (arg7.view.read (Elt F) (arg7.view.writes (Elt F) arg7.view.junk (L7x (arg1.view.read (Elt F) (harg1.unread x1))))) (arg1.view.read (Elt F) (harg1.unread x1))) := by
  rfl

set_option maxHeartbeats 2000000 in
/-- The writes that the body makes at the first point to the buffer of the outlier part of the activations, in scratch. -/
theorem runA_13 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.2.1 = (L13x (arg1.view.read (Elt F) (harg1.unread x1))) := by
  rfl

set_option maxHeartbeats 2000000 in
/-- The writes that the body makes at the first point to the buffer of the block of outputs. -/
theorem runA_6 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).1 = [⟨(Rect.unit (s := S256x512) ![0, 0] S256x512.size inb_S256x512_S256x512_0_0), (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (arg12.view.writes (Elt F) arg12.view.junk (L12x (arg7.view.read (Elt F) (arg7.view.writes (Elt F) arg7.view.junk (L7x (arg1.view.read (Elt F) (harg1.unread x1))))) (arg1.view.read (Elt F) (harg1.unread x1))))) (Rect.unit (s := S256x7168) ![0, 0] S256x7168.size inb_S256x7168_S256x7168_0_0)) (View.ld (S := S256x7168) (Val := Elt F) (e' := .bf16) (arg13.view.read (Elt F) (arg13.view.writes (Elt F) arg13.view.junk (L13x (arg1.view.read (Elt F) (harg1.unread x1))))) (Rect.unit (s := S256x7168) ![0, 0] S256x7168.size inb_S256x7168_S256x7168_0_0)) (View.ld (S := S256x1) (Val := Elt F) (e' := .f32) (arg9.view.read (Elt F) (arg9.view.writes (Elt F) arg9.view.junk [⟨(Rect.unit (s := S256x1) ![0, 0] S256x1.size inb_S256x1_S256x1_0_0), xsF (arg1.view.read (Elt F) (harg1.unread x1))⟩])) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0)))⟩] := by
  rfl

set_option maxHeartbeats 2000000 in
/-- The writes that the body makes at the first point to the buffer of the rows' largest magnitudes, in scratch. -/
theorem runA_15 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.2.2.1 = [⟨(Rect.unit (s := S256x1) ![0, 0] S256x1.size inb_S256x1_S256x1_0_0), k0_pay1 (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (arg12.view.writes (Elt F) arg12.view.junk (L12x (arg7.view.read (Elt F) (arg7.view.writes (Elt F) arg7.view.junk (L7x (arg1.view.read (Elt F) (harg1.unread x1))))) (arg1.view.read (Elt F) (harg1.unread x1))))) (Rect.unit (s := S256x7168) ![0, 0] S256x7168.size inb_S256x7168_S256x7168_0_0)) (View.ld (S := S256x7168) (Val := Elt F) (e' := .bf16) (arg13.view.read (Elt F) (arg13.view.writes (Elt F) arg13.view.junk (L13x (arg1.view.read (Elt F) (harg1.unread x1))))) (Rect.unit (s := S256x7168) ![0, 0] S256x7168.size inb_S256x7168_S256x7168_0_0)) (View.ld (S := S256x1) (Val := Elt F) (e' := .f32) (arg9.view.read (Elt F) (arg9.view.writes (Elt F) arg9.view.junk [⟨(Rect.unit (s := S256x1) ![0, 0] S256x1.size inb_S256x1_S256x1_0_0), xsF (arg1.view.read (Elt F) (harg1.unread x1))⟩])) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))) (View.ld (S := S256x1) (Val := Elt F) (e' := .f32) (arg15.view.read (Elt F) (arg15.view.writes (Elt F) arg15.view.junk [(⟨(Rect.unit (s := S256x1) ![0, 0] S256x1.size inb_S256x1_S256x1_0_0), k0_pay107⟩ : View.Piece (Elt F) S256x1 .f32)])) (Rect.unit (s := S256x1) ![0, 0] S256x1.size inb_S256x1_S256x1_0_0))⟩, (⟨(Rect.unit (s := S256x1) ![0, 0] S256x1.size inb_S256x1_S256x1_0_0), k0_pay107⟩ : View.Piece (Elt F) S256x1 .f32)] := by
  rfl

set_option maxHeartbeats 2000000 in
/-- The writes that the body makes at the first point to the buffer of the stack of output blocks, in scratch. -/
theorem runA_14 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.2.2.2.1 = [⟨Rect.unit (s := S36x256x512) (k0_off1 i) S1x256x512.size (k0_off1_inb i), k0_pay109 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (arg12.view.writes (Elt F) arg12.view.junk (L12x (arg7.view.read (Elt F) (arg7.view.writes (Elt F) arg7.view.junk (L7x (arg1.view.read (Elt F) (harg1.unread x1))))) (arg1.view.read (Elt F) (harg1.unread x1))))) (Rect.unit (s := S256x7168) ![0, 0] S256x7168.size inb_S256x7168_S256x7168_0_0)) (View.ld (S := S256x7168) (Val := Elt F) (e' := .bf16) (arg13.view.read (Elt F) (arg13.view.writes (Elt F) arg13.view.junk (L13x (arg1.view.read (Elt F) (harg1.unread x1))))) (Rect.unit (s := S256x7168) ![0, 0] S256x7168.size inb_S256x7168_S256x7168_0_0)) (View.ld (S := S256x1) (Val := Elt F) (e' := .f32) (arg9.view.read (Elt F) (arg9.view.writes (Elt F) arg9.view.junk [⟨(Rect.unit (s := S256x1) ![0, 0] S256x1.size inb_S256x1_S256x1_0_0), xsF (arg1.view.read (Elt F) (harg1.unread x1))⟩])) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))⟩] := by
  rfl

/-- The outlier marks. -/
theorem readA_7 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (f : arg7.view.ty.Contents (Elt F)) :
    arg7.view.read (Elt F) (arg7.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.1) = maskF x1 := by
  rw [runA_7, View.read_writes_eq_canon _ _ _ (L7x_cover _), canon_L7x, harg1.read_unread]

/-- The quantised activations. -/
theorem readA_8 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (f : arg8.view.ty.Contents (Elt F)) :
    arg8.view.read (Elt F) (arg8.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.1) = xcF x1 := by
  rw [runA_8, View.read_writes_eq_canon _ _ _ (L8x_cover _ _), canon_L8x, harg1.read_unread]
  rw [View.read_writes_eq_canon arg7.view _ _ (L7x_cover _), canon_L7x]
  exact rfl

/-- The scales. -/
theorem readA_9 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (f : arg9.view.ty.Contents (Elt F)) :
    arg9.view.read (Elt F) (arg9.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.1) = xsF x1 := by
  rw [runA_9, read_writes_whole, harg1.read_unread]

/-- The quantised activations as numbers. -/
theorem readA_12 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (f : arg12.view.ty.Contents (Elt F)) :
    arg12.view.read (Elt F) (arg12.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.1) = codesF x1 := by
  rw [runA_12, View.read_writes_eq_canon _ _ _ (L12x_cover _ _), canon_L12x, harg1.read_unread]
  rw [View.read_writes_eq_canon arg7.view _ _ (L7x_cover _), canon_L7x]
  exact rfl

/-- The outlier part. -/
theorem readA_13 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (f : arg13.view.ty.Contents (Elt F)) :
    arg13.view.read (Elt F) (arg13.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.2.1) = xoutF x1 := by
  rw [runA_13, View.read_writes_eq_canon _ _ _ (L13x_cover _), canon_L13x, harg1.read_unread]

/-- The block of outputs computed at the first point, from what the body reads. -/
theorem yA_eq (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) : k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (arg12.view.writes (Elt F) arg12.view.junk (L12x (arg7.view.read (Elt F) (arg7.view.writes (Elt F) arg7.view.junk (L7x (arg1.view.read (Elt F) (harg1.unread x1))))) (arg1.view.read (Elt F) (harg1.unread x1))))) (Rect.unit (s := S256x7168) ![0, 0] S256x7168.size inb_S256x7168_S256x7168_0_0)) (View.ld (S := S256x7168) (Val := Elt F) (e' := .bf16) (arg13.view.read (Elt F) (arg13.view.writes (Elt F) arg13.view.junk (L13x (arg1.view.read (Elt F) (harg1.unread x1))))) (Rect.unit (s := S256x7168) ![0, 0] S256x7168.size inb_S256x7168_S256x7168_0_0)) (View.ld (S := S256x1) (Val := Elt F) (e' := .f32) (arg9.view.read (Elt F) (arg9.view.writes (Elt F) arg9.view.junk [⟨(Rect.unit (s := S256x1) ![0, 0] S256x1.size inb_S256x1_S256x1_0_0), xsF (arg1.view.read (Elt F) (harg1.unread x1))⟩])) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0)) = (k0_pay108 x2 (codesF x1) (xoutF x1) (xsF x1) x3 x4 x5) := by
  have e7 : (arg7.view.read (Elt F) (arg7.view.writes (Elt F) arg7.view.junk (L7x (arg1.view.read (Elt F) (harg1.unread x1))))) = maskF x1 := by
    rw [View.read_writes_eq_canon arg7.view _ _ (L7x_cover _), canon_L7x, harg1.read_unread]
  have e12 : (arg12.view.read (Elt F) (arg12.view.writes (Elt F) arg12.view.junk (L12x (arg7.view.read (Elt F) (arg7.view.writes (Elt F) arg7.view.junk (L7x (arg1.view.read (Elt F) (harg1.unread x1))))) (arg1.view.read (Elt F) (harg1.unread x1))))) = codesF x1 := by
    rw [View.read_writes_eq_canon arg12.view _ _ (L12x_cover _ _), canon_L12x, e7, harg1.read_unread]
    exact rfl
  have e13 : (arg13.view.read (Elt F) (arg13.view.writes (Elt F) arg13.view.junk (L13x (arg1.view.read (Elt F) (harg1.unread x1))))) = xoutF x1 := by
    rw [View.read_writes_eq_canon arg13.view _ _ (L13x_cover _), canon_L13x, harg1.read_unread]
  have e9 : (arg9.view.read (Elt F) (arg9.view.writes (Elt F) arg9.view.junk [⟨(Rect.unit (s := S256x1) ![0, 0] S256x1.size inb_S256x1_S256x1_0_0), xsF (arg1.view.read (Elt F) (harg1.unread x1))⟩])) = xsF x1 := by
    rw [read_writes_whole, harg1.read_unread]
  exact pay108_congr ((ld_whole _ _).trans (harg2.read_unread x2)) ((ld_whole _ _).trans e12) ((ld_whole _ _).trans e13) ((ld_whole _ _).trans e9) ((ld_whole _ _).trans (harg3.read_unread x3)) ((ld_whole _ _).trans (harg4.read_unread x4)) ((ld_whole _ _).trans (harg5.read_unread x5))

/-- The block of outputs. -/
theorem readA_6 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (f : arg6.view.ty.Contents (Elt F)) :
    arg6.view.read (Elt F) (arg6.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).1) = (k0_pay108 x2 (codesF x1) (xoutF x1) (xsF x1) x3 x4 x5) := by
  rw [runA_6, read_writes_whole, yA_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14]

/-- The rows' largest magnitudes so far. -/
theorem readA_15 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (f : arg15.view.ty.Contents (Elt F)) :
    arg15.view.read (Elt F) (arg15.view.writes (Elt F) f (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.2.2.1) = k0_pay1 (k0_pay108 x2 (codesF x1) (xoutF x1) (xsF x1) x3 x4 x5) k0_pay107 := by
  rw [runA_15, read_writes_whole, yA_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14, read_writes_whole]
  exact congrArg _ (ld_whole _ _)

/-- The stack of output blocks: the first one stored, the others as they were. -/
theorem readA_14 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : cond0_0 i) (hc1 : ¬cond0_1 i)
    (x1 : Vec F S256x7168 .bf16) (x2 : Vec F S512x7168 .i8) (x3 : Vec F S1x512 .f32) (x4 : Vec F S1x512 .f32) (x5 : Vec F S256x512 .bf16) (x14 : Vec F S36x256x512 .bf16) (k : Fin 36) (hk : (i 0).val = k.val) (j : Fin 36) :
    plane (arg14.view.read (Elt F) (arg14.view.writes (Elt F) (harg14.unread x14) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14).2.2.2.2.2.2.2.1)) j = if j = k then (k0_pay108 x2 (codesF x1) (xoutF x1) (xsF x1) x3 x4 x5) else plane x14 j := by
  rw [runA_14]
  refine (plane_store (Val := Elt F) (e := .bf16) (K := 36) (r := 256) (c := 512) arg14.view (harg14.unread x14) (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (arg12.view.writes (Elt F) arg12.view.junk (L12x (arg7.view.read (Elt F) (arg7.view.writes (Elt F) arg7.view.junk (L7x (arg1.view.read (Elt F) (harg1.unread x1))))) (arg1.view.read (Elt F) (harg1.unread x1))))) (Rect.unit (s := S256x7168) ![0, 0] S256x7168.size inb_S256x7168_S256x7168_0_0)) (View.ld (S := S256x7168) (Val := Elt F) (e' := .bf16) (arg13.view.read (Elt F) (arg13.view.writes (Elt F) arg13.view.junk (L13x (arg1.view.read (Elt F) (harg1.unread x1))))) (Rect.unit (s := S256x7168) ![0, 0] S256x7168.size inb_S256x7168_S256x7168_0_0)) (View.ld (S := S256x1) (Val := Elt F) (e' := .f32) (arg9.view.read (Elt F) (arg9.view.writes (Elt F) arg9.view.junk [⟨(Rect.unit (s := S256x1) ![0, 0] S256x1.size inb_S256x1_S256x1_0_0), xsF (arg1.view.read (Elt F) (harg1.unread x1))⟩])) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))) k (k0_off1 i) ((k0_off1_eq i).trans (by rw [hk])) (k0_off1_inb i) shapeCasts_S256x512_S1x256x512 j).trans ?_
  rw [harg14.read_unread, yA_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x14]

end Cert.KernelIdeal.Gen

end
-- ==== Proof.KernelIdeal.RunB.lean ====
/- The body at a point strictly between the first and the last: one block of outputs. -/
module

public import proofs.«01_k».proof.Proof.KernelIdeal.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point strictly between the first and the last: one block of outputs. The pieces each stored buffer ends with are the witness; the proof is the run of the body on whole
    memrefs, the inputs' at their contents and given back as they were. -/
noncomputable def kernelRun0_B (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    Σ' (L6 : List (View.Piece (Elt F) S256x512 .bf16)), Σ' (L14 : List (View.Piece (Elt F) S36x256x512 .bf16)), { L15 : List (View.Piece (Elt F) S256x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg12 fullShare x12 ∗ owns (c : Thread nD τ) arg13 fullShare x13 ∗ (∃ d, owns (c : Thread nD τ) arg6 fullShare d) ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg12 fullShare x12 ∗ owns (c : Thread nD τ) arg13 fullShare x13 ∗ (∃ f, arg6.view.loc (c : Thread nD τ) ↦[arg6.view.set]{fullShare} arg6.view.writes (Elt F) f L6) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15)) -∗ K ⟨⟩))
          ⊢ wp frame (wpE (defs₀ (F := F)) Variants.none c none) E (cc0_int8_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_int8_linear_eq_skeleton]; unfold cc0_int8_linear_skel
    simp only [k0_part22_eq_skeleton]; unfold k0_part22_skel

    unfold owns
    iintro ⟨⟨%f1, %hf1, H1⟩, ⟨%f2, %hf2, H2⟩, ⟨%f3, %hf3, H3⟩, ⟨%f4, %hf4, H4⟩, ⟨%f5, %hf5, H5⟩, ⟨%f9, %hf9, H9⟩, ⟨%f12, %hf12, H12⟩, ⟨%f13, %hf13, H13⟩, ⟨%d6, %f6, -, H6⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg12.eq_unread hf12; obtain rfl := harg13.eq_unread hf13; obtain rfl := harg14.eq_unread hf14; obtain rfl := harg15.eq_unread hf15
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H9]
    · iexists _; isplitr; · ipureintro; exact harg9.read_unread _
      iexact H9
    isplitl [H12]
    · iexists _; isplitr; · ipureintro; exact harg12.read_unread _
      iexact H12
    isplitl [H13]
    · iexists _; isplitr; · ipureintro; exact harg13.read_unread _
      iexact H13
    isplitl [H6]
    · iexists _; iexact H6
    isplitl [H14]
    · iexact H14
    iexact H15

end Cert.KernelIdeal.Gen

end
-- ==== Proof.KernelIdeal.ReadB.lean ====
/- What the buffers read after the body's run at a point strictly between the first and the last. -/
module

public import proofs.«01_k».proof.Proof.KernelIdeal.RunB
public import proofs.«01_k».proof.Proof.KernelIdeal.Values

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Tiles Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The writes that the body makes at the points between the first and the last to the buffer of the block of outputs. -/
theorem runB_6 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).1 = [⟨(Rect.unit (s := S256x512) ![0, 0] S256x512.size inb_S256x512_S256x512_0_0), (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0)))⟩] := by
  rfl

set_option maxHeartbeats 2000000 in
/-- The writes that the body makes at the points between the first and the last to the buffer of the rows' largest magnitudes, in scratch. -/
theorem runB_15 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.1 = [⟨(Rect.unit (s := S256x1) ![0, 0] S256x1.size inb_S256x1_S256x1_0_0), k0_pay1 (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))) (View.ld (S := S256x1) (Val := Elt F) (e' := .f32) (arg15.view.read (Elt F) (harg15.unread x15)) (Rect.unit (s := S256x1) ![0, 0] S256x1.size inb_S256x1_S256x1_0_0))⟩] := by
  rfl

set_option maxHeartbeats 2000000 in
/-- The writes that the body makes at the points between the first and the last to the buffer of the stack of output blocks, in scratch. -/
theorem runB_14 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.1 = [⟨Rect.unit (s := S36x256x512) (k0_off1 i) S1x256x512.size (k0_off1_inb i), k0_pay109 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))⟩] := by
  rfl

/-- The block of outputs computed at the point, from what the body reads. -/
theorem yB_eq (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) : k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0)) = (k0_pay108 x2 x12 x13 x9 x3 x4 x5) := by
  rw [harg2.read_unread, harg3.read_unread, harg4.read_unread, harg5.read_unread, harg9.read_unread, harg12.read_unread, harg13.read_unread]
  congr 1 <;> exact ld_whole _ _

/-- The block of outputs. -/
theorem readB_6 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) (f : arg6.view.ty.Contents (Elt F)) :
    arg6.view.read (Elt F) (arg6.view.writes (Elt F) f (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).1) = (k0_pay108 x2 x12 x13 x9 x3 x4 x5) := by
  rw [runB_6, read_writes_whole, yB_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15]

/-- The rows' largest magnitudes so far. -/
theorem readB_15 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32)  :
    arg15.view.read (Elt F) (arg15.view.writes (Elt F) (harg15.unread x15) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.1) = k0_pay1 (k0_pay108 x2 x12 x13 x9 x3 x4 x5) x15 := by
  rw [runB_15, read_writes_whole, yB_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15, harg15.read_unread]
  congr 1; exact ld_whole _ _

/-- The stack of output blocks: the point's stored, the others as they were. -/
theorem readB_14 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : ¬cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) (k : Fin 36) (hk : (i 0).val = k.val) (j : Fin 36) :
    plane (arg14.view.read (Elt F) (arg14.view.writes (Elt F) (harg14.unread x14) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.1)) j = if j = k then (k0_pay108 x2 x12 x13 x9 x3 x4 x5) else plane x14 j := by
  rw [runB_14]
  refine (plane_store (Val := Elt F) (e := .bf16) (K := 36) (r := 256) (c := 512) arg14.view (harg14.unread x14) (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))) k (k0_off1 i) ((k0_off1_eq i).trans (by rw [hk])) (k0_off1_inb i) shapeCasts_S256x512_S1x256x512 j).trans ?_
  rw [harg14.read_unread, yB_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15]

end Cert.KernelIdeal.Gen

end
-- ==== Proof.KernelIdeal.RunC.lean ====
/- The body at the last point: the last block of outputs, then the quantisation of all of them. -/
module

public import proofs.«01_k».proof.Proof.KernelIdeal.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last point: the last block of outputs, then the quantisation of all of them. The pieces each stored buffer ends with are the witness; the proof is the run of the body on whole
    memrefs, the inputs' at their contents and given back as they were. -/
noncomputable def kernelRun0_C (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    Σ' (L6 : List (View.Piece (Elt F) S256x512 .bf16)), Σ' (L10 : List (View.Piece (Elt F) S256x18432 .i8)), Σ' (L11 : List (View.Piece (Elt F) S256x1 .f32)), Σ' (L14 : List (View.Piece (Elt F) S36x256x512 .bf16)), { L15 : List (View.Piece (Elt F) S256x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg12 fullShare x12 ∗ owns (c : Thread nD τ) arg13 fullShare x13 ∗ (∃ d, owns (c : Thread nD τ) arg6 fullShare d) ∗ (∃ d, owns (c : Thread nD τ) arg10 fullShare d) ∗ (∃ d, owns (c : Thread nD τ) arg11 fullShare d) ∗ owns (c : Thread nD τ) arg14 fullShare x14 ∗ owns (c : Thread nD τ) arg15 fullShare x15
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg9 fullShare x9 ∗ owns (c : Thread nD τ) arg12 fullShare x12 ∗ owns (c : Thread nD τ) arg13 fullShare x13 ∗ (∃ f, arg6.view.loc (c : Thread nD τ) ↦[arg6.view.set]{fullShare} arg6.view.writes (Elt F) f L6) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15)) -∗ K ⟨⟩))
          ⊢ wp frame (wpE (defs₀ (F := F)) Variants.none c none) E (cc0_int8_linear i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_int8_linear_eq_skeleton]; unfold cc0_int8_linear_skel
    simp only [k0_part22_eq_skeleton]; unfold k0_part22_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f9, %hf9, H9⟩, ⟨%f12, %hf12, H12⟩, ⟨%f13, %hf13, H13⟩, ⟨%d6, %f6, -, H6⟩, ⟨%d10, %f10, -, H10⟩, ⟨%d11, %f11, -, H11⟩, ⟨%f14, %hf14, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg12.eq_unread hf12; obtain rfl := harg13.eq_unread hf13; obtain rfl := harg14.eq_unread hf14; obtain rfl := harg15.eq_unread hf15
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H9]
    · iexists _; isplitr; · ipureintro; exact harg9.read_unread _
      iexact H9
    isplitl [H12]
    · iexists _; isplitr; · ipureintro; exact harg12.read_unread _
      iexact H12
    isplitl [H13]
    · iexists _; isplitr; · ipureintro; exact harg13.read_unread _
      iexact H13
    isplitl [H6]
    · iexists _; iexact H6
    isplitl [H10]
    · iexists _; iexact H10
    isplitl [H11]
    · iexists _; iexact H11
    isplitl [H14]
    · iexact H14
    iexact H15

end Cert.KernelIdeal.Gen

end
-- ==== Proof.KernelIdeal.ReadC.lean ====
/- What the buffers read after the body's run at the last point. -/
module

public import proofs.«01_k».proof.Proof.KernelIdeal.RunC
public import proofs.«01_k».proof.Proof.KernelIdeal.Values

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Tiles Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The writes that the body makes at the last point to the buffer of the block of outputs. -/
theorem runC_6 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).1 = [⟨(Rect.unit (s := S256x512) ![0, 0] S256x512.size inb_S256x512_S256x512_0_0), (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0)))⟩] := by
  rfl

set_option maxHeartbeats 2000000 in
/-- The writes that the body makes at the last point to the buffer of the rows' largest magnitudes, in scratch. -/
theorem runC_15 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.2.1 = [⟨(Rect.unit (s := S256x1) ![0, 0] S256x1.size inb_S256x1_S256x1_0_0), k0_pay1 (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))) (View.ld (S := S256x1) (Val := Elt F) (e' := .f32) (arg15.view.read (Elt F) (harg15.unread x15)) (Rect.unit (s := S256x1) ![0, 0] S256x1.size inb_S256x1_S256x1_0_0))⟩] := by
  rfl

set_option maxHeartbeats 2000000 in
/-- The writes that the body makes at the last point to the buffer of the stack of output blocks, in scratch. -/
theorem runC_14 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.1 = [⟨Rect.unit (s := S36x256x512) (k0_off1 i) S1x256x512.size (k0_off1_inb i), k0_pay109 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))⟩] := by
  rfl

/-- The block of outputs computed at the point, from what the body reads. -/
theorem yC_eq (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) : k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0)) = (k0_pay108 x2 x12 x13 x9 x3 x4 x5) := by
  rw [harg2.read_unread, harg3.read_unread, harg4.read_unread, harg5.read_unread, harg9.read_unread, harg12.read_unread, harg13.read_unread]
  congr 1 <;> exact ld_whole _ _

/-- The block of outputs. -/
theorem readC_6 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) (f : arg6.view.ty.Contents (Elt F)) :
    arg6.view.read (Elt F) (arg6.view.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).1) = (k0_pay108 x2 x12 x13 x9 x3 x4 x5) := by
  rw [runC_6, read_writes_whole, yC_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15]

/-- The rows' largest magnitudes so far. -/
theorem readC_15 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32)  :
    arg15.view.read (Elt F) (arg15.view.writes (Elt F) (harg15.unread x15) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.2.1) = k0_pay1 (k0_pay108 x2 x12 x13 x9 x3 x4 x5) x15 := by
  rw [runC_15, read_writes_whole, yC_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15, harg15.read_unread]
  congr 1; exact ld_whole _ _

/-- The stack of output blocks: the point's stored, the others as they were. -/
theorem readC_14 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) (k : Fin 36) (hk : (i 0).val = k.val) (j : Fin 36) :
    plane (arg14.view.read (Elt F) (arg14.view.writes (Elt F) (harg14.unread x14) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.1)) j = if j = k then (k0_pay108 x2 x12 x13 x9 x3 x4 x5) else plane x14 j := by
  rw [runC_14]
  refine (plane_store (Val := Elt F) (e := .bf16) (K := 36) (r := 256) (c := 512) arg14.view (harg14.unread x14) (k0_pay108 (View.ld (S := S512x7168) (Val := Elt F) (e' := .i8) (arg2.view.read (Elt F) (harg2.unread x2)) (Rect.unit (s := S512x7168) ![0, 0] S512x7168.size inb_S512x7168_S512x7168_0_0)) (View.ld (S := S256x7168) (Val := Elt F) (e' := .bf16) (arg12.view.read (Elt F) (harg12.unread x12)) (Rect.unit (s := S256x7168) ![0, 0] S256x7168.size inb_S256x7168_S256x7168_0_0)) (View.ld (S := S256x7168) (Val := Elt F) (e' := .bf16) (arg13.view.read (Elt F) (harg13.unread x13)) (Rect.unit (s := S256x7168) ![0, 0] S256x7168.size inb_S256x7168_S256x7168_0_0)) (View.ld (S := S256x1) (Val := Elt F) (e' := .f32) (arg9.view.read (Elt F) (harg9.unread x9)) (Rect.unit (s := S256x1) ![0, 0] S256x1.size inb_S256x1_S256x1_0_0)) (View.ld (S := S1x512) (Val := Elt F) (e' := .f32) (arg3.view.read (Elt F) (harg3.unread x3)) (Rect.unit (s := S1x512) ![0, 0] S1x512.size inb_S1x512_S1x512_0_0)) (View.ld (S := S1x512) (Val := Elt F) (e' := .f32) (arg4.view.read (Elt F) (harg4.unread x4)) (Rect.unit (s := S1x512) ![0, 0] S1x512.size inb_S1x512_S1x512_0_0)) (View.ld (S := S256x512) (Val := Elt F) (e' := .bf16) (arg5.view.read (Elt F) (harg5.unread x5)) (Rect.unit (s := S256x512) ![0, 0] S256x512.size inb_S256x512_S256x512_0_0))) k (k0_off1 i) ((k0_off1_eq i).trans (by rw [hk])) (k0_off1_inb i) shapeCasts_S256x512_S1x256x512 j).trans ?_
  rw [harg14.read_unread, yC_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15]

set_option maxHeartbeats 2000000 in
/-- The writes that the body makes at the last point to the buffer of the scales of the outputs. -/
theorem runC_11 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.1 = [⟨(Rect.unit (s := S256x1) ![0, 0] S256x1.size inb_S256x1_S256x1_0_0), k0_pay70 (View.ld (S := S256x1) (Val := Elt F) (e' := .f32) (arg15.view.read (Elt F) (arg15.view.writes (Elt F) arg15.view.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.2.1)) (Rect.unit (s := S256x1) ![0, 0] S256x1.size inb_S256x1_S256x1_0_0))⟩] := by
  rfl

set_option maxHeartbeats 2000000 in
/-- The writes that the body makes at the last point to the buffer of the codes of the outputs. -/
theorem runC_10 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.1 = L10x (View.ld (S := S256x1) (Val := Elt F) (e' := .f32) (arg15.view.read (Elt F) (arg15.view.writes (Elt F) arg15.view.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.2.1)) (Rect.unit (s := S256x1) ![0, 0] S256x1.size inb_S256x1_S256x1_0_0)) (arg14.view.read (Elt F) (arg14.view.writes (Elt F) (harg14.unread x14) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.1)) := by
  rfl

/-- The rows' largest magnitudes over all blocks. -/
theorem amaxC (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) : (View.ld (S := S256x1) (Val := Elt F) (e' := .f32) (arg15.view.read (Elt F) (arg15.view.writes (Elt F) arg15.view.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.2.1)) (Rect.unit (s := S256x1) ![0, 0] S256x1.size inb_S256x1_S256x1_0_0)) = k0_pay1 (k0_pay108 x2 x12 x13 x9 x3 x4 x5) x15 := by
  rw [runC_15, read_writes_whole, yC_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15, harg15.read_unread]
  refine (ld_whole _ _).trans ?_
  congr 1; exact ld_whole _ _

/-- The scales of the output rows. -/
theorem readC_11 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) (f : arg11.view.ty.Contents (Elt F)) :
    arg11.view.read (Elt F) (arg11.view.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.1) = k0_pay70 (k0_pay1 (k0_pay108 x2 x12 x13 x9 x3 x4 x5) x15) := by
  rw [runC_11, read_writes_whole, amaxC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15]

/-- The quantised outputs, from the finished stack. -/
theorem readC_10 (c : Dev nD) (i : grid0.Coords) (arg1 : Memref sig .tc .vmem S256x7168 .bf16) (harg1 : arg1.IsWhole) (arg2 : Memref sig .tc .vmem S512x7168 .i8) (harg2 : arg2.IsWhole) (arg3 : Memref sig .tc .vmem S1x512 .f32) (harg3 : arg3.IsWhole) (arg4 : Memref sig .tc .vmem S1x512 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x7168 .i32) (harg7 : arg7.IsWhole) (arg8 : Memref sig .tc .vmem S256x7168 .i8) (harg8 : arg8.IsWhole) (arg9 : Memref sig .tc .vmem S256x1 .f32) (harg9 : arg9.IsWhole) (arg10 : Memref sig .tc .vmem S256x18432 .i8) (harg10 : arg10.IsWhole) (arg11 : Memref sig .tc .vmem S256x1 .f32) (harg11 : arg11.IsWhole) (arg12 : Memref sig .tc .vmem S256x7168 .bf16) (harg12 : arg12.IsWhole) (arg13 : Memref sig .tc .vmem S256x7168 .bf16) (harg13 : arg13.IsWhole) (arg14 : Memref sig .tc .vmem S36x256x512 .bf16) (harg14 : arg14.IsWhole) (arg15 : Memref sig .tc .vmem S256x1 .f32) (harg15 : arg15.IsWhole) (hc0 : ¬cond0_0 i) (hc1 : cond0_1 i)
    (x1 : Vec F S256x7168 .bf16) (x2 : Vec F S512x7168 .i8) (x3 : Vec F S1x512 .f32) (x4 : Vec F S1x512 .f32) (x5 : Vec F S256x512 .bf16) (x9 : Vec F S256x1 .f32) (x12 : Vec F S256x7168 .bf16) (x13 : Vec F S256x7168 .bf16) (x14 : Vec F S36x256x512 .bf16) (x15 : Vec F S256x1 .f32) (f : arg10.view.ty.Contents (Elt F)) :
    arg10.view.read (Elt F) (arg10.view.writes (Elt F) f (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.1) = ycF (k0_pay70 (k0_pay1 (k0_pay108 x2 x12 x13 x9 x3 x4 x5) x15)) (arg14.view.read (Elt F) (arg14.view.writes (Elt F) (harg14.unread x14) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15).2.2.2.1)) := by
  refine (congrArg (fun L => arg10.view.read (Elt F) (arg10.view.writes (Elt F) f L)) (runC_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15)).trans ?_
  rw [View.read_writes_eq_canon _ _ _ (L10x_cover _ _), canon_L10x, amaxC c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x1 x2 x3 x4 x5 x9 x12 x13 x14 x15]

end Cert.KernelIdeal.Gen

end
-- ==== Proof.KernelIdeal.Frame.lean ====
/- The proof data of the pipeline, with the contents of every buffer named; the body's triple at every point; the run of @main and the frame. -/
module

public import proofs.«01_k».proof.Proof.KernelIdeal.ReadA
public import proofs.«01_k».proof.Proof.KernelIdeal.ReadB
public import proofs.«01_k».proof.Proof.KernelIdeal.ReadC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Tiles Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first point of the grid. -/
abbrev pt0 : Fin cfg0.N := ⟨0, by rw [show cfg0.N = 36 from N_0]; decide⟩
/-- The activations the body reads (the same block at every point). -/
def x0 (c : Dev nD) : Vec F S256x7168 .bf16 := iblk m c 0 pt0
/-- Window 0's block is the same at every point. -/
theorem iblk0_const (c : Dev nD) (t : Fin cfg0.N) : iblk m c 0 t = x0 m c := by
  unfold x0 iblk; rfl
/-- The point of the grid numbered `k`. -/
abbrev ptk (k : Fin 36) : Fin cfg0.N := ⟨k.val, by rw [show cfg0.N = 36 from N_0]; exact k.isLt⟩
/-- The block of outputs computed at point `t`. -/
def yAt (c : Dev nD) (t : Fin cfg0.N) : Vec F S256x512 .bf16 :=
  k0_pay108 (iblk m c 1 t) (codesF (x0 m c)) (xoutF (x0 m c)) (xsF (x0 m c)) (iblk m c 2 t) (iblk m c 3 t) (iblk m c 4 t)
/-- The rows' largest magnitudes over the first `n` blocks of outputs. -/
def amaxAt (c : Dev nD) : ℕ → Vec F S256x1 .f32
  | 0 => k0_pay107
  | n + 1 => if h : n < 36 then k0_pay1 (yAt m c (ptk ⟨n, h⟩)) (amaxAt c n) else amaxAt c n
/-- One more block taken in. -/
theorem amaxAt_succ (c : Dev nD) (t : Fin cfg0.N) : amaxAt m c (t.val + 1) = k0_pay1 (yAt m c t) (amaxAt m c t.val) := by
  have ht : t.val < 36 := Nat.lt_of_lt_of_eq t.isLt N_0
  rw [amaxAt, dif_pos ht]
/-- The finished stack of output blocks. -/
def yAll (c : Dev nD) : Vec F S36x256x512 .bf16 := fun j => yAt m c (ptk (j 0)) (ix2 (j 1) (j 2))
/-- A stack whose planes are the blocks is the finished one. -/
theorem yAll_of (c : Dev nD) (Y : Vec F S36x256x512 .bf16) (h : ∀ k : Fin 36, plane (K := 36) (r := 256) (c := 512) Y k = yAt m c (ptk k)) : Y = yAll m c := by
  funext j
  have h1 := congrFun (h (j 0)) (ix2 (j 1) (j 2))
  refine Eq.trans ?_ h1
  unfold plane
  exact congrArg Y (eq_ix3 (n0 := 36) (n1 := 256) (n2 := 512) j)
/-- The scales of the output rows. -/
def ysAll (c : Dev nD) : Vec F S256x1 .f32 := k0_pay70 (amaxAt m c 36)
/-- The quantised outputs. -/
def ycAll (c : Dev nD) : Vec F S256x18432 .i8 := ycF (ysAll m c) (yAll m c)

/-- The invariant between points `n - 1` and `n`: before the first the scratch at anything; later the quantised and
    the outlier parts of the activations, the blocks stored so far and the rows' largest magnitudes so far. -/
def PhiS (c : Dev nD) : ℕ → sProp 𝕄
  | 0 => Pipeline.ΦA spec0 c
  | n + 1 => iprop(iprop(owns (c : Thread nD τ) scM0_0 fullShare (codesF (x0 m c)) ∗ owns (c : Thread nD τ) scM0_1 fullShare (xoutF (x0 m c))
      ∗ (∃ Y : Vec F S36x256x512 .bf16, ⌜∀ k : Fin 36, k.val < n + 1 → plane (K := 36) (r := 256) (c := 512) Y k = yAt m c (ptk k)⌝ ∗ owns (c : Thread nD τ) scM0_2 fullShare Y)
      ∗ owns (c : Thread nD τ) scM0_3 fullShare (amaxAt m c (n + 1))) ∗ (∃ r, prngReg c r))

/-- The invariant after at least one point, spelt out. -/
theorem PhiS_pos (c : Dev nD) (n : ℕ) (h : n ≠ 0) : PhiS m c n = iprop(iprop(owns (c : Thread nD τ) scM0_0 fullShare (codesF (x0 m c)) ∗ owns (c : Thread nD τ) scM0_1 fullShare (xoutF (x0 m c))
      ∗ (∃ Y : Vec F S36x256x512 .bf16, ⌜∀ k : Fin 36, k.val < n → plane (K := 36) (r := 256) (c := 512) Y k = yAt m c (ptk k)⌝ ∗ owns (c : Thread nD τ) scM0_2 fullShare Y)
      ∗ owns (c : Thread nD τ) scM0_3 fullShare (amaxAt m c n)) ∗ (∃ r, prngReg c r)) := by
  cases n with
  | zero => exact absurd rfl h
  | succ n => rfl

/-! ## The pipeline's proof data -/

/-- The proof data of the pipeline on core `c`: the arrays as the region finds them; after the body at a point each
    input's buffer at its block and each output's at the array named for it; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yAt m c t
    | ⟨6, _⟩ => maskF (x0 m c)
    | ⟨7, _⟩ => xcF (x0 m c)
    | ⟨8, _⟩ => xsF (x0 m c)
    | ⟨9, _⟩ => ycAll m c
    | ⟨10, _⟩ => ysAll m c
  Φ t := PhiS m c t.val
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) : (dats m 0 c).Φ t.castSucc = PhiS m c t.val := by
  dsimp only [dats]; rfl

/-! What the body leaves, window by window. -/
/-- The body leaves window 0 holding its block of the activations. -/
theorem after0_0 (c : Dev nD) (t : Fin cfg0.N) : (dats m 0 c).after 0 t = iblk m c 0 t := by dsimp only [dats]
/-- The body leaves window 1 holding its block of the weights. -/
theorem after0_1 (c : Dev nD) (t : Fin cfg0.N) : (dats m 0 c).after 1 t = iblk m c 1 t := by dsimp only [dats]
/-- The body leaves window 2 holding its block of the weights' scales. -/
theorem after0_2 (c : Dev nD) (t : Fin cfg0.N) : (dats m 0 c).after 2 t = iblk m c 2 t := by dsimp only [dats]
/-- The body leaves window 3 holding its block of the bias. -/
theorem after0_3 (c : Dev nD) (t : Fin cfg0.N) : (dats m 0 c).after 3 t = iblk m c 3 t := by dsimp only [dats]
/-- The body leaves window 4 holding its block of the residual. -/
theorem after0_4 (c : Dev nD) (t : Fin cfg0.N) : (dats m 0 c).after 4 t = iblk m c 4 t := by dsimp only [dats]
/-- The body leaves window 5 holding the point's block of outputs. -/
theorem after0_5 (c : Dev nD) (t : Fin cfg0.N) : (dats m 0 c).after 5 t = yAt m c t := by dsimp only [dats]
/-- The body leaves window 6 holding the outlier marks. -/
theorem after0_6 (c : Dev nD) (t : Fin cfg0.N) : (dats m 0 c).after 6 t = maskF (x0 m c) := by dsimp only [dats]
/-- The body leaves window 7 holding the codes of the activations. -/
theorem after0_7 (c : Dev nD) (t : Fin cfg0.N) : (dats m 0 c).after 7 t = xcF (x0 m c) := by dsimp only [dats]
/-- The body leaves window 8 holding the scales of the activations. -/
theorem after0_8 (c : Dev nD) (t : Fin cfg0.N) : (dats m 0 c).after 8 t = xsF (x0 m c) := by dsimp only [dats]
/-- The body leaves window 9 holding the codes of the outputs. -/
theorem after0_9 (c : Dev nD) (t : Fin cfg0.N) : (dats m 0 c).after 9 t = ycAll m c := by dsimp only [dats]
/-- The body leaves window 10 holding the scales of the outputs. -/
theorem after0_10 (c : Dev nD) (t : Fin cfg0.N) : (dats m 0 c).after 10 t = ysAll m c := by dsimp only [dats]

/-! Each input's current staging buffer holds its block at every point. -/
/-- The body finds window 0 holding its block of the activations. -/
theorem before0_0 (c : Dev nD) (t : Fin cfg0.N) (d) : (dats m 0 c).before 0 t d = iblk m c 0 t :=
  before0_0_of m (dats m 0 c) (A_eq m c 0) (after0_0 m c) t d
/-- The body finds window 1 holding its block of the weights. -/
theorem before0_1 (c : Dev nD) (t : Fin cfg0.N) (d) : (dats m 0 c).before 1 t d = iblk m c 1 t :=
  before0_1_of m (dats m 0 c) (A_eq m c 1) (after0_1 m c) t d
/-- The body finds window 2 holding its block of the weights' scales. -/
theorem before0_2 (c : Dev nD) (t : Fin cfg0.N) (d) : (dats m 0 c).before 2 t d = iblk m c 2 t :=
  before0_2_of m (dats m 0 c) (A_eq m c 2) (after0_2 m c) t d
/-- The body finds window 3 holding its block of the bias. -/
theorem before0_3 (c : Dev nD) (t : Fin cfg0.N) (d) : (dats m 0 c).before 3 t d = iblk m c 3 t :=
  before0_3_of m (dats m 0 c) (A_eq m c 3) (after0_3 m c) t d
/-- The body finds window 4 holding its block of the residual. -/
theorem before0_4 (c : Dev nD) (t : Fin cfg0.N) (d) : (dats m 0 c).before 4 t d = iblk m c 4 t :=
  before0_4_of m (dats m 0 c) (A_eq m c 4) (after0_4 m c) t d

/-- Output 6's buffer, stored at the first point, keeps its contents. -/
theorem before0_6 (c : Dev nD) (d) : ∀ (n : ℕ) (t : Fin cfg0.N), t.val = n + 1 → (dats m 0 c).before 6 t d = maskF (x0 m c) := by
  intro n
  induction n with
  | zero =>
    intro t ht
    have h36 : t.val < 36 := Nat.lt_of_lt_of_eq t.isLt N_0
    rw [(dats m 0 c).before_of_pos 6 t (by omega) rfl d, noFlush0_6 _ (by show t.val - 1 ≠ 35; omega), if_neg Bool.false_ne_true]
    unfold Dat.left
    rw [liveAt0_6 _ (by show t.val - 1 = 0; omega)]
    show (dats m 0 c).after 6 _ = _
    rw [after0_6]
  | succ n ih =>
    intro t ht
    have h36 : t.val < 36 := Nat.lt_of_lt_of_eq t.isLt N_0
    rw [(dats m 0 c).before_of_pos 6 t (by omega) rfl d, noFlush0_6 _ (by show t.val - 1 ≠ 35; omega), if_neg Bool.false_ne_true]
    unfold Dat.left
    rw [idleAt0_6 _ (by show t.val - 1 ≠ 0; omega)]
    exact ih _ (by show t.val - 1 = n + 1; omega)

/-- Output 7's buffer, stored at the first point, keeps its contents. -/
theorem before0_7 (c : Dev nD) (d) : ∀ (n : ℕ) (t : Fin cfg0.N), t.val = n + 1 → (dats m 0 c).before 7 t d = xcF (x0 m c) := by
  intro n
  induction n with
  | zero =>
    intro t ht
    have h36 : t.val < 36 := Nat.lt_of_lt_of_eq t.isLt N_0
    rw [(dats m 0 c).before_of_pos 7 t (by omega) rfl d, noFlush0_7 _ (by show t.val - 1 ≠ 35; omega), if_neg Bool.false_ne_true]
    unfold Dat.left
    rw [liveAt0_7 _ (by show t.val - 1 = 0; omega)]
    show (dats m 0 c).after 7 _ = _
    rw [after0_7]
  | succ n ih =>
    intro t ht
    have h36 : t.val < 36 := Nat.lt_of_lt_of_eq t.isLt N_0
    rw [(dats m 0 c).before_of_pos 7 t (by omega) rfl d, noFlush0_7 _ (by show t.val - 1 ≠ 35; omega), if_neg Bool.false_ne_true]
    unfold Dat.left
    rw [idleAt0_7 _ (by show t.val - 1 ≠ 0; omega)]
    exact ih _ (by show t.val - 1 = n + 1; omega)

/-- Output 8's buffer, stored at the first point, keeps its contents. -/
theorem before0_8 (c : Dev nD) (d) : ∀ (n : ℕ) (t : Fin cfg0.N), t.val = n + 1 → (dats m 0 c).before 8 t d = xsF (x0 m c) := by
  intro n
  induction n with
  | zero =>
    intro t ht
    have h36 : t.val < 36 := Nat.lt_of_lt_of_eq t.isLt N_0
    rw [(dats m 0 c).before_of_pos 8 t (by omega) rfl d, noFlush0_8 _ (by show t.val - 1 ≠ 35; omega), if_neg Bool.false_ne_true]
    unfold Dat.left
    rw [liveAt0_8 _ (by show t.val - 1 = 0; omega)]
    show (dats m 0 c).after 8 _ = _
    rw [after0_8]
  | succ n ih =>
    intro t ht
    have h36 : t.val < 36 := Nat.lt_of_lt_of_eq t.isLt N_0
    rw [(dats m 0 c).before_of_pos 8 t (by omega) rfl d, noFlush0_8 _ (by show t.val - 1 ≠ 35; omega), if_neg Bool.false_ne_true]
    unfold Dat.left
    rw [idleAt0_8 _ (by show t.val - 1 ≠ 0; omega)]
    exact ih _ (by show t.val - 1 = n + 1; omega)

/-! ## The body at every point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- What the pipeline asks of window 0 after a point: its buffer holds its block of the activations. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
/-- What the pipeline asks of window 1 after a point: its buffer holds its block of the weights. -/
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
/-- What the pipeline asks of window 2 after a point: its buffer holds its block of the weights' scales. -/
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
/-- What the pipeline asks of window 3 after a point: its buffer holds its block of the bias. -/
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
/-- What the pipeline asks of window 4 after a point: its buffer holds its block of the residual. -/
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
/-- What the pipeline asks of window 5 after a point: its buffer holds the point's block of outputs. -/
theorem leaves0_5 (c : Dev nD) (t : Fin cfg0.N) : (dats m 0 c).leavesExact 5 t = owns (c : Thread nD τ) (ms0_5 t) fullShare (yAt m c t) := by
  unfold Dat.leavesExact; rw [liveAt0_5 t, after0_5]
/-- What the pipeline asks of window 6 after the first point: its buffer holds the outlier marks. -/
theorem leaves0_6_A (c : Dev nD) (t : Fin cfg0.N) (h : t.val = 0) : (dats m 0 c).leavesExact 6 t = owns (c : Thread nD τ) (ms0_6 t) fullShare (maskF (x0 m c)) := by
  unfold Dat.leavesExact; rw [liveAt0_6 t h, after0_6]
/-- What the pipeline asks of window 6 after a point strictly between the first and the last: its buffer is as the point found it. -/
theorem leaves0_6_B (c : Dev nD) (t : Fin cfg0.N) (h0 : t.val ≠ 0) (h1 : t.val ≠ 35) : (dats m 0 c).leavesExact 6 t = iprop(∃ d, owns (c : Thread nD τ) (ms0_6 t) fullShare ((dats m 0 c).before 6 t d)) :=
  Dat.leavesExact_idle (dats m 0 c) 6 t (idleAt0_6 t h0) (noFlush0_6 t h1)
/-- What the pipeline asks of window 6 after the last point: its buffer holds the outlier marks. -/
theorem leaves0_6_C (c : Dev nD) (t : Fin cfg0.N) (h : t.val = 35) : (dats m 0 c).leavesExact 6 t = owns (c : Thread nD τ) (ms0_6 t) fullShare (maskF (x0 m c)) := by
  unfold Dat.leavesExact; rw [idleAt0_6 t (by omega), (flush0_6 t).mpr (by omega), after0_6]
/-- What the pipeline asks of window 7 after the first point: its buffer holds the codes of the activations. -/
theorem leaves0_7_A (c : Dev nD) (t : Fin cfg0.N) (h : t.val = 0) : (dats m 0 c).leavesExact 7 t = owns (c : Thread nD τ) (ms0_7 t) fullShare (xcF (x0 m c)) := by
  unfold Dat.leavesExact; rw [liveAt0_7 t h, after0_7]
/-- What the pipeline asks of window 7 after a point strictly between the first and the last: its buffer is as the point found it. -/
theorem leaves0_7_B (c : Dev nD) (t : Fin cfg0.N) (h0 : t.val ≠ 0) (h1 : t.val ≠ 35) : (dats m 0 c).leavesExact 7 t = iprop(∃ d, owns (c : Thread nD τ) (ms0_7 t) fullShare ((dats m 0 c).before 7 t d)) :=
  Dat.leavesExact_idle (dats m 0 c) 7 t (idleAt0_7 t h0) (noFlush0_7 t h1)
/-- What the pipeline asks of window 7 after the last point: its buffer holds the codes of the activations. -/
theorem leaves0_7_C (c : Dev nD) (t : Fin cfg0.N) (h : t.val = 35) : (dats m 0 c).leavesExact 7 t = owns (c : Thread nD τ) (ms0_7 t) fullShare (xcF (x0 m c)) := by
  unfold Dat.leavesExact; rw [idleAt0_7 t (by omega), (flush0_7 t).mpr (by omega), after0_7]
/-- What the pipeline asks of window 8 after the first point: its buffer holds the scales of the activations. -/
theorem leaves0_8_A (c : Dev nD) (t : Fin cfg0.N) (h : t.val = 0) : (dats m 0 c).leavesExact 8 t = owns (c : Thread nD τ) (ms0_8 t) fullShare (xsF (x0 m c)) := by
  unfold Dat.leavesExact; rw [liveAt0_8 t h, after0_8]
/-- What the pipeline asks of window 8 after a point strictly between the first and the last: its buffer is as the point found it. -/
theorem leaves0_8_B (c : Dev nD) (t : Fin cfg0.N) (h0 : t.val ≠ 0) (h1 : t.val ≠ 35) : (dats m 0 c).leavesExact 8 t = iprop(∃ d, owns (c : Thread nD τ) (ms0_8 t) fullShare ((dats m 0 c).before 8 t d)) :=
  Dat.leavesExact_idle (dats m 0 c) 8 t (idleAt0_8 t h0) (noFlush0_8 t h1)
/-- What the pipeline asks of window 8 after the last point: its buffer holds the scales of the activations. -/
theorem leaves0_8_C (c : Dev nD) (t : Fin cfg0.N) (h : t.val = 35) : (dats m 0 c).leavesExact 8 t = owns (c : Thread nD τ) (ms0_8 t) fullShare (xsF (x0 m c)) := by
  unfold Dat.leavesExact; rw [idleAt0_8 t (by omega), (flush0_8 t).mpr (by omega), after0_8]
/-- What the pipeline asks of window 9 after the last point: its buffer holds the codes of the outputs. -/
theorem leaves0_9_C (c : Dev nD) (t : Fin cfg0.N) (h : t.val = 35) : (dats m 0 c).leavesExact 9 t = owns (c : Thread nD τ) (ms0_9 t) fullShare (ycAll m c) := by
  unfold Dat.leavesExact; rw [liveAt0_9 t h, after0_9]
/-- What the pipeline asks of window 9 after a point before the last: its buffer is as the point found it. -/
theorem leaves0_9_B (c : Dev nD) (t : Fin cfg0.N) (h1 : t.val ≠ 35) : (dats m 0 c).leavesExact 9 t = iprop(∃ d, owns (c : Thread nD τ) (ms0_9 t) fullShare ((dats m 0 c).before 9 t d)) :=
  Dat.leavesExact_idle (dats m 0 c) 9 t (idleAt0_9 t h1) (noFlush0_9 t h1)
/-- What the pipeline asks of window 10 after the last point: its buffer holds the scales of the outputs. -/
theorem leaves0_10_C (c : Dev nD) (t : Fin cfg0.N) (h : t.val = 35) : (dats m 0 c).leavesExact 10 t = owns (c : Thread nD τ) (ms0_10 t) fullShare (ysAll m c) := by
  unfold Dat.leavesExact; rw [liveAt0_10 t h, after0_10]
/-- What the pipeline asks of window 10 after a point before the last: its buffer is as the point found it. -/
theorem leaves0_10_B (c : Dev nD) (t : Fin cfg0.N) (h1 : t.val ≠ 35) : (dats m 0 c).leavesExact 10 t = iprop(∃ d, owns (c : Thread nD τ) (ms0_10 t) fullShare ((dats m 0 c).before 10 t d)) :=
  Dat.leavesExact_idle (dats m 0 c) 10 t (idleAt0_10 t h1) (noFlush0_10 t h1)

set_option maxHeartbeats 4800000 in
/-- The body at the first point. -/
theorem sound_A (c : Dev nD) (t : Fin cfg0.N) (h0 : t.val = 0) :
    bodyPre m c t ⊢ wp frame (wpE (defs₀ (F := F)) Variants.none c none) Set.univ (bodyAt0 t) (fun _ => bodyPost m c t) := by
  have h1 : t.val ≠ 35 := by omega
  have hN : t.val < 36 := lt_of_lt_of_eq t.isLt (show cfg0.N = 36 from N_0)
  have hk : (grid0.coords t 0).val = (⟨t.val, hN⟩ : Fin 36).val := by
    have e0 : (grid0.coords t 0).val = t.val / 1 % 36 := Pipeline.Grid.coords_val t 0 (by decide) rfl
    rw [e0, Nat.div_one, Nat.mod_eq_of_lt hN]
  have hx : iblk m c 0 t = x0 m c := iblk0_const m c t
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [leaves0_0 m c t, leaves0_1 m c t, leaves0_2 m c t, leaves0_3 m c t, leaves0_4 m c t, leaves0_5 m c t, leaves0_6_A m c t h0, leaves0_7_A m c t h0, leaves0_8_A m c t h0, leaves0_9_B m c t h1, leaves0_10_B m c t h1]
  rw [PhiS_castSucc m c t, h0, show PhiS m c 0 = Pipeline.ΦA spec0 c from rfl, PhiA0_eq]
  iintro ⟨⟨⟨HS0, HS1, ⟨%Y, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
  iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) Y).2.2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS3]; · iexact HS3
  isplitl [HS2]; · iexact HS2
  iintro ⟨H0, H1, H2, H3, H4, ⟨%e5, H5⟩, ⟨%e6, H6⟩, ⟨%e7, H7⟩, ⟨%e8, H8⟩, ⟨%es0, HS0⟩, ⟨%es1, HS1⟩, ⟨%es3, HS3⟩, HS2⟩
  isplitl [HS0 HS1 HS2 HS3 Hg]
  · isplitl [HS0 HS1 HS2 HS3]
    · isplitl [HS0]
      · unfold owns; iexists _; isplitr
        swap; · iexact HS0
        ipureintro; rw [← hx]; exact readA_12 c _ _ _ _ _ _ _ _ _ _ _ _ _ _ _ _ _ _ _ _ _ _ _ _ _ _ _ _ _ _ _ (((hcond0_0 t).mpr h0)) (fun h => h1 ((hcond0_1 t).mp h)) _ _ _ _ _ _ _
      isplitl [HS1]
      · unfold owns; iexists _; isplitr
        swap; · iexact HS1
        ipureintro; rw [← hx]; exact readA_13 c _ _ _ _ _ _ _ _ _ _ _ _ _ _ _ _ _ _ _ _ _ _ _ _ _ _ _ _ _ _ _ (((hcond0_0 t).mpr h0)) (fun h => h1 ((hcond0_1 t).mp h)) _ _ _ _ _ _ _
      isplitl [HS2]
      · iexists _; isplitr
        swap
        · unfold owns; iexists _; isplitr
          swap; · iexact HS2
          ipureintro; exact rfl
        ipureintro
        intro k hkt
        refine (readA_14 c _ _ _ _ _ _ _ _ _ _ _ _ _ _ _ _ _ _ _ _ _ _ _ _ _ _ _ _ _ _ _ (((hcond0_0 t).mpr h0)) (fun h => h1 ((hcond0_1 t).mp h)) _ _ _ _ _ _ ⟨t.val, hN⟩ hk k).trans ?_
        have hkk : k = ⟨t.val, hN⟩ := Fin.ext (by show k.val = t.val; omega)
        rw [if_pos hkk]; subst hkk; rw [hx]; rfl
      unfold owns; iexists _; isplitr
      swap; · iexact HS3
      ipureintro
      refine (readA_15 c _ _ _ _ _ _ _ _ _ _ _ _ _ _ _ _ _ _ _ _ _ _ _ _ _ _ _ _ _ _ _ (((hcond0_0 t).mpr h0)) (fun h => h1 ((hcond0_1 t).mp h)) _ _ _ _ _ _ _).trans ?_
      rw [show (0 + 1) = t.val + 1 by omega, amaxAt_succ, hx, h0]; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; refine (readA_6 c _ _ _ _ _ _ _ _ _ _ _ _ _ _ _ _ _ _ _ _ _ _ _ _ _ _ _ _ _ _ _ (((hcond0_0 t).mpr h0)) (fun h => h1 ((hcond0_1 t).mp h)) _ _ _ _ _ _ _).trans ?_; rw [hx]; rfl
  isplitl [H6]
  · unfold owns; iexists _; isplitr
    swap; · iexact H6
    ipureintro; rw [← hx]; exact readA_7 c _ _ _ _ _ _ _ _ _ _ _ _ _ _ _ _ _ _ _ _ _ _ _ _ _ _ _ _ _ _ _ (((hcond0_0 t).mpr h0)) (fun h => h1 ((hcond0_1 t).mp h)) _ _ _ _ _ _ _
  isplitl [H7]
  · unfold owns; iexists _; isplitr
    swap; · iexact H7
    ipureintro; rw [← hx]; exact readA_8 c _ _ _ _ _ _ _ _ _ _ _ _ _ _ _ _ _ _ _ _ _ _ _ _ _ _ _ _ _ _ _ (((hcond0_0 t).mpr h0)) (fun h => h1 ((hcond0_1 t).mp h)) _ _ _ _ _ _ _
  isplitl [H8]
  · unfold owns; iexists _; isplitr
    swap; · iexact H8
    ipureintro; rw [← hx]; exact readA_9 c _ _ _ _ _ _ _ _ _ _ _ _ _ _ _ _ _ _ _ _ _ _ _ _ _ _ _ _ _ _ _ (((hcond0_0 t).mpr h0)) (fun h => h1 ((hcond0_1 t).mp h)) _ _ _ _ _ _ _
  isplitl [H9]; · iexact H9
  iexact H10

set_option maxHeartbeats 4800000 in
/-- The body at a point strictly between the first and the last. -/
theorem sound_B (c : Dev nD) (t : Fin cfg0.N) (h0 : t.val ≠ 0) (h1 : t.val ≠ 35) :
    bodyPre m c t ⊢ wp frame (wpE (defs₀ (F := F)) Variants.none c none) Set.univ (bodyAt0 t) (fun _ => bodyPost m c t) := by
  have hN : t.val < 36 := lt_of_lt_of_eq t.isLt (show cfg0.N = 36 from N_0)
  have hk : (grid0.coords t 0).val = (⟨t.val, hN⟩ : Fin 36).val := by
    have e0 : (grid0.coords t 0).val = t.val / 1 % 36 := Pipeline.Grid.coords_val t 0 (by decide) rfl
    rw [e0, Nat.div_one, Nat.mod_eq_of_lt hN]
  have hx : iblk m c 0 t = x0 m c := iblk0_const m c t
  have h6 := fun d => before0_6 m c d (t.val - 1) t (by omega)
  have h7 := fun d => before0_7 m c d (t.val - 1) t (by omega)
  have h8 := fun d => before0_8 m c d (t.val - 1) t (by omega)
  unfold bodyPre bodyPost bodyAt0
  rw [show (dats m 0 c).Φ t.succ = PhiS m c (t.val + 1) from rfl, PhiS_pos m c (t.val + 1) (Nat.succ_ne_zero _)]
  rw [leaves0_0 m c t, leaves0_1 m c t, leaves0_2 m c t, leaves0_3 m c t, leaves0_4 m c t, leaves0_5 m c t, leaves0_6_B m c t h0 h1, leaves0_7_B m c t h0 h1, leaves0_8_B m c t h0 h1, leaves0_9_B m c t h1, leaves0_10_B m c t h1]
  simp only [before0_0, before0_1, before0_2, before0_3, before0_4, h6, h7, h8]
  rw [show (dats m 0 c).owesAt () t.succ = (dats m 0 c).owesAt () t.castSucc from rfl]
  rw [PhiS_castSucc m c t, PhiS_pos m c t.val h0]
  iintro ⟨⟨⟨HS0, HS1, ⟨%Y, %hY, HS2⟩, HS3⟩, Hg⟩, Ho, ⟨%d0, H0⟩, ⟨%d1, H1⟩, ⟨%d2, H2⟩, ⟨%d3, H3⟩, ⟨%d4, H4⟩, ⟨%d5, H5⟩, H6, H7, ⟨%d8, H8⟩, H9, H10⟩
  iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (xsF (x0 m c)) (codesF (x0 m c)) (xoutF (x0 m c)) Y (amaxAt m c t.val)).2.2.2 Set.univ _)
  isplitl [H0]; · iexact H0
  isplitl [H1]; · iexact H1
  isplitl [H2]; · iexact H2
  isplitl [H3]; · iexact H3
  isplitl [H4]; · iexact H4
  isplitl [H8]; · iexact H8
  isplitl [HS0]; · iexact HS0
  isplitl [HS1]; · iexact HS1
  isplitl [H5]; · iexists _; iexact H5
  isplitl [HS2]; · iexact HS2
  isplitl [HS3]; · iexact HS3
  iintro ⟨H0, H1, H2, H3, H4, H8, HS0, HS1, ⟨%e5, H5⟩, HS2, HS3⟩
  isplitl [HS0 HS1 HS2 HS3 Hg]
  · isplitl [HS0 HS1 HS2 HS3]
    · isplitl [HS0]; · iexact HS0
      isplitl [HS1]; · iexact HS1
      isplitl [HS2]
      · iexists _; isplitr
        swap
        · unfold owns; iexists _; isplitr
          swap; · iexact HS2
          ipureintro; exact rfl
        ipureintro
        intro k hkt
        refine (readB_14 c _ _ _ _ _ _ _ _ _ _ _ _ _ _ _ _ _ _ _ _ _ _ _ _ _ _ _ _ _ _ _ (fun h => h0 ((hcond0_0 t).mp h)) (fun h => h1 ((hcond0_1 t).mp h)) _ _ _ _ _ _ _ _ _ _ ⟨t.val, hN⟩ hk k).trans ?_
        by_cases hkk : k = ⟨t.val, hN⟩
        · rw [if_pos hkk]; subst hkk; rfl
        · rw [if_neg hkk]
          exact hY k (by have : k.val ≠ t.val := fun h => hkk (Fin.ext h); omega)
      unfold owns; iexists _; isplitr
      swap; · iexact HS3
      ipureintro
      refine (readB_15 c _ _ _ _ _ _ _ _ _ _ _ _ _ _ _ _ _ _ _ _ _ _ _ _ _ _ _ _ _ _ _ (fun h => h0 ((hcond0_0 t).mp h)) (fun h => h1 ((hcond0_1 t).mp h)) _ _ _ _ _ _ _ _ _ _).trans ?_
      rw [amaxAt_succ]; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact readB_6 c _ _ _ _ _ _ _ _ _ _ _ _ _ _ _ _ _ _ _ _ _ _ _ _ _ _ _ _ _ _ _ (fun h => h0 ((hcond0_0 t).mp h)) (fun h => h1 ((hcond0_1 t).mp h)) _ _ _ _ _ _ _ _ _ _ _
  isplitl [H6]; · iexact H6
  isplitl [H7]; · iexact H7
  isplitl [H8]; · iexists d8; iexact H8
  isplitl [H9]; · iexact H9
  iexact H10

set_option maxHeartbeats 4800000 in
/-- The body at the last point. -/
theorem sound_C (c : Dev nD) (t : Fin cfg0.N) (h0 : t.val ≠ 0) (h1 : t.val = 35) :
    bodyPre m c t ⊢ wp frame (wpE (defs₀ (F := F)) Variants.none c none) Set.univ (bodyAt0 t) (fun _ => bodyPost m c t) := by
  have hN : t.val < 36 := lt_of_lt_of_eq t.isLt (show cfg0.N = 36 from N_0)
  have hk : (grid0.coords t 0).val = (⟨t.val, hN⟩ : Fin 36).val := by
    have e0 : (grid0.coords t 0).val = t.val / 1 % 36 := Pipeline.Grid.coords_val t 0 (by decide) rfl
    rw [e0, Nat.div_one, Nat.mod_eq_of_lt hN]
  have hx : iblk m c 0 t = x0 m c := iblk0_const m c t
  have h6 := fun d => before0_6 m c d (t.val - 1) t (by omega)
  have h7 := fun d => before0_7 m c d (t.val - 1) t (by omega)
  have h8 := fun d => before0_8 m c d (t.val - 1) t (by omega)
  unfold bodyPre bodyPost bodyAt0
  rw [show (dats m 0 c).Φ t.succ = PhiS m c (t.val + 1) from rfl, PhiS_pos m c (t.val + 1) (Nat.succ_ne_zero _)]
  rw [leaves0_0 m c t, leaves0_1 m c t, leaves0_2 m c t, leaves0_3 m c t, leaves0_4 m c t, leaves0_5 m c t, leaves0_6_C m c t h1, leaves0_7_C m c t h1, leaves0_8_C m c t h1, leaves0_9_C m c t h1, leaves0_10_C m c t h1]
  simp only [before0_0, before0_1, before0_2, before0_3, before0_4, h6, h7, h8]
  rw [show (dats m 0 c).owesAt () t.succ = (dats m 0 c).owesAt () t.castSucc from rfl]
  rw [PhiS_castSucc m c t, PhiS_pos m c t.val h0]
  iintro ⟨⟨⟨HS0, HS1, ⟨%Y, %hY, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (xsF (x0 m c)) (codesF (x0 m c)) (xoutF (x0 m c)) Y (amaxAt m c t.val)).2.2.2.2.2 Set.univ _)
  isplitl [H0]; · iexact H0
  isplitl [H1]; · iexact H1
  isplitl [H2]; · iexact H2
  isplitl [H3]; · iexact H3
  isplitl [H4]; · iexact H4
  isplitl [H8]; · iexact H8
  isplitl [HS0]; · iexact HS0
  isplitl [HS1]; · iexact HS1
  isplitl [H5]; · iexists _; iexact H5
  isplitl [H9]; · iexists _; iexact H9
  isplitl [H10]; · iexists _; iexact H10
  isplitl [HS2]; · iexact HS2
  isplitl [HS3]; · iexact HS3
  iintro ⟨H0, H1, H2, H3, H4, H8, HS0, HS1, ⟨%e5, H5⟩, ⟨%e9, H9⟩, ⟨%e10, H10⟩, HS2, HS3⟩
  isplitl [HS0 HS1 HS2 HS3 Hg]
  · isplitl [HS0 HS1 HS2 HS3]
    · isplitl [HS0]; · iexact HS0
      isplitl [HS1]; · iexact HS1
      isplitl [HS2]
      · iexists _; isplitr
        swap
        · unfold owns; iexists _; isplitr
          swap; · iexact HS2
          ipureintro; exact rfl
        ipureintro
        intro k hkt
        refine (readC_14 c _ _ _ _ _ _ _ _ _ _ _ _ _ _ _ _ _ _ _ _ _ _ _ _ _ _ _ _ _ _ _ (fun h => h0 ((hcond0_0 t).mp h)) ((hcond0_1 t).mpr h1) _ _ _ _ _ _ _ _ _ _ ⟨t.val, hN⟩ hk k).trans ?_
        by_cases hkk : k = ⟨t.val, hN⟩
        · rw [if_pos hkk]; subst hkk; rfl
        · rw [if_neg hkk]
          exact hY k (by have : k.val ≠ t.val := fun h => hkk (Fin.ext h); omega)
      unfold owns; iexists _; isplitr
      swap; · iexact HS3
      ipureintro
      refine (readC_15 c _ _ _ _ _ _ _ _ _ _ _ _ _ _ _ _ _ _ _ _ _ _ _ _ _ _ _ _ _ _ _ (fun h => h0 ((hcond0_0 t).mp h)) ((hcond0_1 t).mpr h1) _ _ _ _ _ _ _ _ _ _).trans ?_
      rw [amaxAt_succ]; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact readC_6 c _ _ _ _ _ _ _ _ _ _ _ _ _ _ _ _ _ _ _ _ _ _ _ _ _ _ _ _ _ _ _ (fun h => h0 ((hcond0_0 t).mp h)) ((hcond0_1 t).mpr h1) _ _ _ _ _ _ _ _ _ _ _
  isplitl [H6]; · iexact H6
  isplitl [H7]; · iexact H7
  isplitl [H8]; · iexact H8
  isplitl [H9]
  · unfold owns; iexists _; isplitr
    swap; · iexact H9
    ipureintro
    refine (readC_10 c _ _ _ _ _ _ _ _ _ _ _ _ _ _ _ _ _ _ _ _ _ _ _ _ _ _ _ _ _ _ _ (fun h => h0 ((hcond0_0 t).mp h)) ((hcond0_1 t).mpr h1) _ _ _ _ _ _ _ _ _ _ _).trans ?_
    have hs : k0_pay70 (k0_pay1 (yAt m c t) (amaxAt m c t.val)) = ysAll m c := by
      rw [← amaxAt_succ, h1]; rfl
    refine Eq.trans (congrArg (fun Z => ycF (k0_pay70 (k0_pay1 (yAt m c t) (amaxAt m c t.val))) Z) (yAll_of m c _ ?_)) (by rw [hs]; rfl)
    intro k
    refine (readC_14 c _ _ _ _ _ _ _ _ _ _ _ _ _ _ _ _ _ _ _ _ _ _ _ _ _ _ _ _ _ _ _ (fun h => h0 ((hcond0_0 t).mp h)) ((hcond0_1 t).mpr h1) _ _ _ _ _ _ _ _ _ _ ⟨t.val, hN⟩ hk k).trans ?_
    by_cases hkk : k = ⟨t.val, hN⟩
    · rw [if_pos hkk]; subst hkk; rfl
    · rw [if_neg hkk]
      exact hY k (by have : k.val ≠ t.val := fun h => hkk (Fin.ext h); have := k.isLt; omega)
  unfold owns; iexists _; isplitr
  swap; · iexact H10
  ipureintro
  refine (readC_11 c _ _ _ _ _ _ _ _ _ _ _ _ _ _ _ _ _ _ _ _ _ _ _ _ _ _ _ _ _ _ _ (fun h => h0 ((hcond0_0 t).mp h)) ((hcond0_1 t).mpr h1) _ _ _ _ _ _ _ _ _ _ _).trans ?_
  have hs : k0_pay70 (k0_pay1 (yAt m c t) (amaxAt m c t.val)) = ysAll m c := by
    rw [← amaxAt_succ, h1]; rfl
  exact hs

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  · by_cases h1 : t.val = 35
    · exact sound_C m c t h0 h1
    · exact sound_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the scratch back: its named contents are forgotten. -/
theorem hout (c : Dev nD) : (dats m 0 c).Φ (Fin.last cfg0.N) ⊢ Pipeline.ΦA spec0 c := by
  have hN : cfg0.N = 36 := N_0
  rw [show (dats m 0 c).Φ (Fin.last cfg0.N) = PhiS m c (Fin.last cfg0.N).val from rfl, PhiS_pos m c _ (by rw [Fin.val_last]; omega), PhiA0_eq]
  iintro ⟨⟨HS0, HS1, ⟨%Y, %hY, HS2⟩, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The run and the frame -/

-- `θ_run_frame_track`'s implicit arguments are found by unifying its conclusion with this one, which takes unfolding plain
-- definitions in a metavariable's type
set_option backward.isDefEq.respectTransparency.types false in
/-- The run of @main: every array of the pipeline ends at what the proof data say, every other buffer as the region
    found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Spec.lean ====
/- The mathematics both programs compute, on extended reals: the mark of an outlier column, the magnitudes off
   the outlier columns, the scale of a row, the code of a number under a scale, and the affine output.
   With it the readings of the vector operations the two programs share: a largest magnitude along one axis,
   a row or a column spread over a matrix, a product with a transposed right side, and a clipped rounded number
   stored as an eight-bit integer. -/
module

public import Idealize.ShloMosaic.PureOps.Ideal.Laws
public import Idealize.ShloMosaic.Lib.Pipeline.Value
public import Idealize.ShloMosaic.Lib.ValueIdxCore
public import Idealize.ShloMosaic.Lib.MatmulPlain

@[expose] public section

noncomputable section

namespace Cert.Spec

open Idealize.ShloMosaic Idealize.ShloMosaic.ValueIdx
open scoped BigOperators

/-- The pattern of +0.0 denotes zero, -/
theorem bits_zero : Ideal.ofBits .f32 0x00000000#32 = 0 := by simp [Ideal.ofBits, Ideal.ieee]
/-- in the short format too, -/
theorem bits_zero16 : Ideal.ofBits .bf16 0x0000#16 = 0 := by simp [Ideal.ofBits, Ideal.ieee]
/-- that of −∞ the least extended real, -/
theorem bits_bot : Ideal.ofBits .f32 0xFF800000#32 = ⊥ := by simp [Ideal.ofBits, Ideal.ieee]
/-- that of 127.0 this number, -/
theorem bits_hi : Ideal.ofBits .f32 0x42FE0000#32 = ((127 : ℝ) : EReal) := by
  simp [Ideal.ofBits, Ideal.ieee, -EReal.coe_mul]; norm_num
/-- and that of −127.0 this one. -/
theorem bits_lo : Ideal.ofBits .f32 0xC2FE0000#32 = ((-127 : ℝ) : EReal) := by
  simp [Ideal.ofBits, Ideal.ieee, -EReal.coe_mul]; norm_num

/-! ### Largest values -/

/-- The largest of finitely many extended reals, −∞ of none. -/
def mx {n : ℕ} (f : Fin n → EReal) : EReal := (Finset.univ : Finset (Fin n)).fold max ⊥ f

/-- It is at most `c` exactly when each of them is. -/
theorem mx_le {n : ℕ} (f : Fin n → EReal) (c : EReal) : mx f ≤ c ↔ ∀ i, f i ≤ c := by
  unfold mx
  rw [Finset.fold_max_le]
  simp

attribute [irreducible] mx

/-- A magnitude. -/
def ab (x : EReal) : EReal := max x (-x)

/-- The magnitude of zero is zero. -/
theorem ab_zero : ab 0 = 0 := by simp [ab]

/-- Magnitudes are not negative. -/
theorem ab_nonneg (x : EReal) : 0 ≤ ab x := by
  unfold ab
  rcases le_total 0 x with h | h
  · exact le_max_of_le_left h
  · exact le_max_of_le_right (EReal.neg_nonneg.2 h)

/-! ### Clipped rounded numbers as eight-bit integers -/

/-- The code of a quotient: rounded to nearest, ties to even, and clipped to ±127. -/
def clip (z : EReal) : EReal :=
  min (Ideal.ofBits .f32 0x42FE0000#32) (max (Ideal.ofBits .f32 0xC2FE0000#32) (Ideal.liftRound Ideal.roundHalfEven z))

/-- A clipped rounded number is a whole number between −127 and 127. -/
theorem clip_int (z : EReal) : ∃ n : ℤ, -127 ≤ n ∧ n ≤ 127 ∧ clip z = ((n : ℝ) : EReal) := by
  unfold clip
  rw [bits_hi, bits_lo]
  induction z using EReal.rec with
  | bot =>
    refine ⟨-127, by decide, by decide, ?_⟩
    show min ((127 : ℝ) : EReal) (max ((-127 : ℝ) : EReal) ⊥) = _
    rw [max_eq_left bot_le, min_eq_right (EReal.coe_le_coe_iff.2 (by norm_num))]
    norm_num
  | top =>
    refine ⟨127, by decide, by decide, ?_⟩
    show min ((127 : ℝ) : EReal) (max ((-127 : ℝ) : EReal) ⊤) = _
    rw [max_eq_right le_top, min_eq_left le_top]
    norm_num
  | coe r =>
    refine ⟨min 127 (max (-127) (Ideal.roundHalfEven r)), le_min (by decide) (le_max_left _ _), min_le_left _ _, ?_⟩
    show min ((127 : ℝ) : EReal) (max ((-127 : ℝ) : EReal) ((Ideal.roundHalfEven r : ℝ) : EReal)) = _
    have hm : Monotone (Real.toEReal) := EReal.coe_strictMono.monotone
    rw [← hm.map_max, ← hm.map_min]
    push_cast
    rfl

/-- Stored as an eight-bit integer and read back it is unchanged. -/
theorem clip_roundtrip (z : EReal) : (((Ideal.fptosi 8 (clip z)).toInt : ℝ) : EReal) = clip z := by
  obtain ⟨n, h1, h2, e⟩ := clip_int z
  rw [e]
  unfold Ideal.fptosi
  rw [Ideal.toIntClamped_coe, Int.floor_intCast, Int.ceil_intCast, ite_self]
  have e2 : max (-((2 ^ (8 - 1) : ℕ) : ℤ)) (min (((2 ^ (8 - 1) : ℕ) : ℤ) - 1) n) = n := by
    rw [min_eq_right (by norm_num; omega), max_eq_right (by norm_num; omega)]
  rw [e2, BitVec.toInt_ofInt]
  have e3 : n.bmod (2 ^ 8) = n := Int.bmod_eq_of_le (by norm_num; omega) (by norm_num; omega)
  rw [e3]

/-! ### The computation -/

/-- The scale of a row whose largest magnitude is `a`: `a / 127`, or 1 for a row of zeros. -/
def scaleOf (a : EReal) : EReal :=
  if Ideal.cmp .oeq a (Ideal.ofBits .f32 0x00000000#32) = 1 then Ideal.ofBits .f32 0x3F800000#32
  else Ideal.div a (Ideal.ofBits .f32 0x42FE0000#32)

section
variable (X : (⟨2, ![256, 7168]⟩ : Shape).Idx → EReal) (W : (⟨2, ![18432, 7168]⟩ : Shape).Idx → BitVec 8)
  (WS B : (⟨2, ![1, 18432]⟩ : Shape).Idx → EReal) (R : (⟨2, ![256, 18432]⟩ : Shape).Idx → EReal)

/-- Whether column `j` holds an outlier: a magnitude above the threshold. -/
def isOut (j : Fin 7168) : BitVec 1 := Ideal.cmp .ogt (mx fun r : Fin 256 => ab (X (ix2 r j))) (Ideal.ofBits .f32 0x40C00000#32)
/-- The activations off the outlier columns, zero in them. -/
def reg (r : Fin 256) (j : Fin 7168) : EReal := if isOut X j = 1 then 0 else X (ix2 r j)
/-- The activations in the outlier columns, zero off them. -/
def outl (r : Fin 256) (j : Fin 7168) : EReal := if isOut X j = 1 then X (ix2 r j) else 0
/-- The largest magnitude of a row off the outlier columns. -/
def amax (r : Fin 256) : EReal := mx fun j => ab (reg X r j)
/-- The scale of a row. -/
def xsc (r : Fin 256) : EReal := scaleOf (amax X r)
/-- The code of an activation. -/
def xcode (r : Fin 256) (j : Fin 7168) : EReal := clip (Ideal.div (reg X r j) (xsc X r))
/-- The output. -/
def out (r : Fin 256) (n : Fin 18432) : EReal :=
  (((∑ k : Fin 7168, xcode X r k * (((W (ix2 n k)).toInt : ℝ) : EReal)) * xsc X r
    + ∑ k : Fin 7168, outl X r k * (((W (ix2 n k)).toInt : ℝ) : EReal)) * WS (ix2 0 n) + B (ix2 0 n)) + R (ix2 r n)
/-- The largest magnitude of an output row. -/
def ymax (r : Fin 256) : EReal := mx fun n => ab (out X W WS B R r n)
/-- The scale of an output row. -/
def ysc (r : Fin 256) : EReal := scaleOf (ymax X W WS B R r)
/-- The code of an output. -/
def ycode (r : Fin 256) (n : Fin 18432) : EReal := clip (Ideal.div (out X W WS B R r n) (ysc X W WS B R r))
end

/-! ### Vector operations read at an index -/

/-- The largest value of each column, as a row. -/
theorem colmax_apply {r c : ℕ} (src : FVec Ideal ⟨2, ![r, c]⟩ .f32) (h : (⟨2, ![r, c]⟩ : Shape).Reduces [0] ⟨1, ![c]⟩)
    (hφ : FKind.Formats .f32) (hacc : 0xFF800000#32 = FKind.maximumf.neutral .f32 hφ)
    (hs : (⟨1, ![c]⟩ : Shape).ShapeCasts ⟨2, ![1, c]⟩) (i : Fin 1) (j : Fin c) :
    shapeCast ⟨2, ![1, c]⟩ (multiReduction .maximumf [0] ⟨1, ![c]⟩ src 0xFF800000#32 h hφ hacc) hs (ix2 i j)
      = mx fun k : Fin r => src (ix2 k j) := by
  rw [shapeCast_apply _ hs (ix2 i j) (ix1 j) (by
    rw [Shape.rowMajor_val_one, Shape.rowMajor_val_two]
    show j.val = i.val * c + j.val
    have := i.isLt
    rw [show i.val = 0 by omega]; omega)]
  rw [Ideal.multiReduction_maximumf_single]
  show Finset.fold max (Ideal.ofBits .f32 0xFF800000#32) _ _ = _
  rw [bits_bot]
  unfold mx
  refine Finset.fold_congr fun k _ => congrArg src ?_
  funext a
  match a with
  | ⟨0, _⟩ => rfl
  | ⟨1, _⟩ => rfl

/-- The largest value of each row, as a column. -/
theorem rowmax_apply {r c : ℕ} (src : FVec Ideal ⟨2, ![r, c]⟩ .f32) (h : (⟨2, ![r, c]⟩ : Shape).Reduces [1] ⟨1, ![r]⟩)
    (hφ : FKind.Formats .f32) (hacc : 0xFF800000#32 = FKind.maximumf.neutral .f32 hφ)
    (hs : (⟨1, ![r]⟩ : Shape).ShapeCasts ⟨2, ![r, 1]⟩) (i : Fin r) (j : Fin 1) :
    shapeCast ⟨2, ![r, 1]⟩ (multiReduction .maximumf [1] ⟨1, ![r]⟩ src 0xFF800000#32 h hφ hacc) hs (ix2 i j)
      = mx fun k : Fin c => src (ix2 i k) := by
  rw [shapeCast_apply _ hs (ix2 i j) (ix1 i) (by
    rw [Shape.rowMajor_val_one, Shape.rowMajor_val_two]
    show i.val = i.val * 1 + j.val
    have := j.isLt
    omega)]
  rw [Ideal.multiReduction_maximumf_single]
  show Finset.fold max (Ideal.ofBits .f32 0xFF800000#32) _ _ = _
  rw [bits_bot]
  unfold mx
  refine Finset.fold_congr fun k _ => congrArg src ?_
  funext a
  match a with
  | ⟨0, _⟩ => rfl
  | ⟨1, _⟩ => rfl

/-- A row spread over the rows of a matrix. -/
theorem bRow_apply {α : Type} {r c : ℕ} (hc : c ≠ 1) (x : (⟨2, ![1, c]⟩ : Shape).Idx → α) (h : (⟨2, ![1, c]⟩ : Shape).Broadcasts ⟨2, ![r, c]⟩)
    (i : Fin r) (j : Fin c) : broadcastTo ⟨2, ![r, c]⟩ x h (ix2 i j) = x (ix2 0 j) :=
  broadcastTo_apply x h _ _ fun a => by
    match a with
    | ⟨0, _⟩ => rfl
    | ⟨1, _⟩ => exact (if_neg hc).symm

/-- A column spread over the columns of a matrix. -/
theorem bCol_apply {α : Type} {r c : ℕ} (hr : r ≠ 1) (x : (⟨2, ![r, 1]⟩ : Shape).Idx → α) (h : (⟨2, ![r, 1]⟩ : Shape).Broadcasts ⟨2, ![r, c]⟩)
    (i : Fin r) (j : Fin c) : broadcastTo ⟨2, ![r, c]⟩ x h (ix2 i j) = x (ix2 i 0) :=
  broadcastTo_apply x h _ _ fun a => by
    match a with
    | ⟨0, _⟩ => exact (if_neg hr).symm
    | ⟨1, _⟩ => rfl

/-- A product with a transposed right side onto zeros. -/
theorem prod_apply {M K N : ℕ} {φ₁ φ₂ : FTy} (d : DotDims ⟨2, ![M, K]⟩ ⟨2, ![N, K]⟩ ⟨2, ![M, N]⟩)
    (hd : d = DotDims.transposedRhs M K N) (l : FVec Ideal ⟨2, ![M, K]⟩ φ₁) (w : FVec Ideal ⟨2, ![N, K]⟩ φ₂) (i : Fin M) (j : Fin N) :
    matmul d none l w (constant ⟨2, ![M, N]⟩ .f32 0x00000000#32) (ix2 i j) = ∑ k : Fin K, (l (ix2 i k) : EReal) * w (ix2 j k) := by
  subst hd
  refine (Ideal.matmul_transposedRhs_apply none l w _ i j).trans ?_
  show Ideal.ofBits .f32 0x00000000#32 + _ = _
  rw [bits_zero, zero_add]

/-! ### Pointwise operations read at an index -/

section
variable {s : Shape} {φ : FTy} (x y : FVec Ideal s φ) (i : s.Idx)

/-- A comparison, at an index. -/
theorem cmpf_at (p : CmpFPredicate) : cmpf p x y i = Ideal.cmp p (x i) (y i) := rfl
/-- A selection, at an index. -/
theorem select_at {α : Type} (c : IVec s 1) (a b : s.Idx → α) : select c a b i = if c i = 1 then a i else b i := rfl
/-- An absolute value, at an index, is the magnitude. -/
theorem absf_at : absf x i = ab (x i) := rfl
/-- A quotient, at an index. -/
theorem divf_at : divf x y i = Ideal.div (x i) (y i) := rfl
/-- A sum, at an index. -/
theorem addf_at : addf x y i = (x i + y i : EReal) := rfl
/-- A product, at an index. -/
theorem mulf_at : mulf x y i = (x i * y i : EReal) := rfl
/-- A maximum, at an index. -/
theorem max_at : maximumf x y i = (max (x i) (y i) : EReal) := rfl
/-- A minimum, at an index. -/
theorem min_at : minimumf x y i = (min (x i) (y i) : EReal) := rfl
/-- A rounding to the nearest integer, ties to even, at an index. -/
theorem roundeven_at : roundeven x i = Ideal.liftRound Ideal.roundHalfEven (x i) := rfl
/-- Widening a float format changes no value, -/
theorem extf_eq (ψ : FTy) (h : φ.bits < ψ.bits) : (extf ψ x h : s.Idx → EReal) = x := rfl
/-- so none at an index; -/
theorem extf_at (ψ : FTy) (h : φ.bits < ψ.bits) : extf ψ x h i = x i := rfl
/-- narrowing one changes no value either. -/
theorem truncf_at (ψ : FTy) (h : ψ.bits < φ.bits) : truncf ψ x h i = x i := rfl
/-- A conversion of floats to integers, at an index. -/
theorem fptosi_at (w : ℕ) : fptosi w x i = Ideal.fptosi w (x i) := rfl
/-- A conversion of integers to floats, at an index, is the integer read as signed. -/
theorem sitofp_at {w : ℕ} (b : IVec s w) : (sitofp φ b : FVec Ideal s φ) i = (((b i).toInt : ℝ) : EReal) := rfl
/-- A constant array, at an index, is the constant. -/
theorem broadcast_at {α : Type} (a : α) : broadcast s a i = a := rfl
/-- A zero extension, at an index. -/
theorem extui_at (v w : ℕ) (b : IVec s v) (h : v < w) : extui w b h i = (b i).setWidth w := rfl
/-- A constant given by its pattern is the number that the pattern denotes. -/
theorem bits_at (b : BitVec φ.bits) : Scalar.ofBits (F := Ideal) φ b = Ideal.ofBits φ b := rfl
end

/-- The scales of rows, from their largest magnitudes. -/
theorem scale_at {s : Shape} (A : FVec Ideal s .f32) (i : s.Idx) (a : EReal) (h : A i = a) :
    select (cmpf .oeq A (broadcast s (Scalar.ofBits (F := Ideal) .f32 0x00000000#32))) (broadcast s (Scalar.ofBits (F := Ideal) .f32 0x3F800000#32))
      (divf A (broadcast s (Scalar.ofBits (F := Ideal) .f32 0x42FE0000#32))) i = scaleOf a := by
  subst h; rfl

/-- The codes, as numbers, of numbers under scales. -/
theorem code_at {s : Shape} (A S : FVec Ideal s .f32) (i : s.Idx) (a b : EReal) (h : A i = a) (h' : S i = b) :
    minimumf (broadcast s (Scalar.ofBits (F := Ideal) .f32 0x42FE0000#32))
      (maximumf (broadcast s (Scalar.ofBits (F := Ideal) .f32 0xC2FE0000#32)) (roundeven (divf A S))) i = clip (Ideal.div a b) := by
  subst h h'; rfl

end Cert.Spec

end
-- ==== Proof.Algebra.Ker.lean ====
/- The values the kernel's body stores, chunk by chunk and block by block, as the mathematics of
   `Proof/Spec.lean`, at every index of the whole arrays. -/
module

public import proofs.«01_k».proof.Proof.Spec
public import proofs.«01_k».proof.Proof.KernelIdeal.Values

@[expose] public section

noncomputable section

namespace Cert.KerAlg

open Idealize.ShloMosaic Idealize.ShloMosaic.ValueIdx
open Cert.KernelIdeal Cert.KernelIdeal.Gen Cert.Spec Cert.Tiles
open scoped BigOperators

variable (X : Vec Ideal S256x7168 .bf16)

/-! ### One chunk of 1024 columns -/

section Chunk
variable (v : Vec Ideal S256x1024 .bf16)

/-- Whether column `j` of the chunk holds an outlier. -/
def isOutC (j : Fin 1024) : BitVec 1 := Ideal.cmp .ogt (mx fun r : Fin 256 => ab (v (ix2 r j))) (Ideal.ofBits .f32 0x40C00000#32)

/-- The magnitudes of a chunk. -/
theorem abs_of (hs : S256x1024.ShapeCasts S256x1024) (h : FTy.bf16.bits < FTy.f32.bits) (r : Fin 256) (j : Fin 1024) :
    absf (extf .f32 (shapeCast S256x1024 v hs : FVec Ideal S256x1024 .bf16) h) (ix2 r j) = ab (v (ix2 r j)) := by
  rw [shapeCast_self]
  exact absf_at _ _

/-- The marks of a chunk's columns, from its magnitudes. -/
theorem mark_of (Y : FVec Ideal S256x1024 .f32) (hY : ∀ r j, Y (ix2 r j) = ab (v (ix2 r j)))
    (h : S256x1024.Reduces [0] S1024) (hφ : FKind.Formats .f32) (hacc : 0xFF800000#32 = FKind.maximumf.neutral .f32 hφ)
    (hs : S1024.ShapeCasts S1x1024) (i : Fin 1) (j : Fin 1024) :
    cmpf .ogt (shapeCast S1x1024 (multiReduction .maximumf [0] S1024 Y 0xFF800000#32 h hφ hacc) hs)
      (broadcast S1x1024 (Scalar.ofBits (F := Ideal) .f32 0x40C00000#32)) (ix2 i j) = isOutC v j := by
  refine (cmpf_at _ _ _ _).trans ?_
  refine congrArg₂ (Ideal.cmp .ogt) ((colmax_apply _ _ _ _ _ i j).trans ?_) rfl
  exact congrArg mx (funext fun r => hY r j)

/-- A chunk's marks spread over the rows. -/
theorem spread_of (k : IVec S1x1024 1) (hk : ∀ i j, k (ix2 i j) = isOutC v j) (hs : S1x1024.ShapeCasts S1x1024)
    (hb : S1x1024.Broadcasts S256x1024) (r : Fin 256) (j : Fin 1024) :
    broadcastTo S256x1024 (shapeCast S1x1024 k hs) hb (ix2 r j) = isOutC v j := by
  rw [shapeCast_self]
  exact (bRow_apply (by decide) _ _ r j).trans (hk 0 j)

/-- The largest magnitudes of a chunk's rows off its outlier columns, taken into those so far. -/
theorem acc_of (acc : FVec Ideal S256x1 .f32) (k : IVec S256x1024 1) (Y : FVec Ideal S256x1024 .f32)
    (hk : ∀ r j, k (ix2 r j) = isOutC v j) (hY : ∀ r j, Y (ix2 r j) = ab (v (ix2 r j)))
    (h : S256x1024.Reduces [1] S256) (hφ : FKind.Formats .f32) (hacc : 0xFF800000#32 = FKind.maximumf.neutral .f32 hφ)
    (hs : S256.ShapeCasts S256x1) (r : Fin 256) (i : Fin 1) :
    maximumf acc (shapeCast S256x1 (multiReduction .maximumf [1] S256
      (select k (broadcast S256x1024 (Scalar.ofBits (F := Ideal) .f32 0x00000000#32)) Y) 0xFF800000#32 h hφ hacc) hs) (ix2 r i)
      = max (acc (ix2 r i)) (mx fun j => ab (if isOutC v j = 1 then 0 else v (ix2 r j))) := by
  refine (max_at _ _ _).trans (congrArg (max (acc (ix2 r i))) ((rowmax_apply _ _ _ _ _ r i).trans ?_))
  refine congrArg mx (funext fun j => (select_at _ _ _ _).trans ?_)
  rw [hk, hY, broadcast_at, bits_at, bits_zero]
  split
  · exact ab_zero.symm
  · rfl

/-- The magnitudes of a chunk, as the body computes them for one of the seven chunks. -/
theorem pay4_at (r : Fin 256) (j : Fin 1024) : k0_pay4 v (ix2 r j) = ab (v (ix2 r j)) := by
  unfold k0_pay4 k0_pay3; exact abs_of v _ _ r j
/-- The magnitudes of a chunk, as the body computes them for one of the seven chunks. -/
theorem pay10_at (r : Fin 256) (j : Fin 1024) : k0_pay10 v (ix2 r j) = ab (v (ix2 r j)) := by
  unfold k0_pay10 k0_pay9; exact abs_of v _ _ r j
/-- The magnitudes of a chunk, as the body computes them for one of the seven chunks. -/
theorem pay16_at (r : Fin 256) (j : Fin 1024) : k0_pay16 v (ix2 r j) = ab (v (ix2 r j)) := by
  unfold k0_pay16 k0_pay15; exact abs_of v _ _ r j
/-- A chunk recast to its own shape is itself. -/
theorem pay21_eq : k0_pay21 v = v := by
  unfold k0_pay21; exact shapeCast_self _ _
/-- The magnitudes of a chunk, as the body computes them for one of the seven chunks. -/
theorem pay23_at (r : Fin 256) (j : Fin 1024) : k0_pay23 (F := Ideal) v (ix2 r j) = ab (v (ix2 r j)) := by
  unfold k0_pay23 k0_pay22; exact absf_at _ _
/-- The magnitudes of a chunk, as the body computes them for one of the seven chunks. -/
theorem pay28_at (r : Fin 256) (j : Fin 1024) : k0_pay28 v (ix2 r j) = ab (v (ix2 r j)) := by
  unfold k0_pay28 k0_pay27; exact abs_of v _ _ r j
/-- The magnitudes of a chunk, as the body computes them for one of the seven chunks. -/
theorem pay34_at (r : Fin 256) (j : Fin 1024) : k0_pay34 v (ix2 r j) = ab (v (ix2 r j)) := by
  unfold k0_pay34 k0_pay33; exact abs_of v _ _ r j
/-- The magnitudes of a chunk, as the body computes them for one of the seven chunks. -/
theorem pay40_at (r : Fin 256) (j : Fin 1024) : k0_pay40 v (ix2 r j) = ab (v (ix2 r j)) := by
  unfold k0_pay40 k0_pay39; exact abs_of v _ _ r j

/-- The outlier marks of a chunk, as the body computes them for one of the seven chunks. -/
theorem pay5_at (i : Fin 1) (j : Fin 1024) : k0_pay5 v (ix2 i j) = isOutC v j := by
  unfold k0_pay5; exact mark_of v _ (pay4_at v) _ _ _ _ i j
/-- The outlier marks of a chunk, as the body computes them for one of the seven chunks. -/
theorem pay11_at (i : Fin 1) (j : Fin 1024) : k0_pay11 v (ix2 i j) = isOutC v j := by
  unfold k0_pay11; exact mark_of v _ (pay10_at v) _ _ _ _ i j
/-- The outlier marks of a chunk, as the body computes them for one of the seven chunks. -/
theorem pay17_at (i : Fin 1) (j : Fin 1024) : k0_pay17 v (ix2 i j) = isOutC v j := by
  unfold k0_pay17; exact mark_of v _ (pay16_at v) _ _ _ _ i j
/-- The outlier marks of a chunk, as the body computes them for one of the seven chunks. -/
theorem pay24_at (i : Fin 1) (j : Fin 1024) : k0_pay24 (F := Ideal) v (ix2 i j) = isOutC v j := by
  unfold k0_pay24; exact mark_of v _ (pay23_at v) _ _ _ _ i j
/-- The outlier marks of a chunk, as the body computes them for one of the seven chunks. -/
theorem pay29_at (i : Fin 1) (j : Fin 1024) : k0_pay29 v (ix2 i j) = isOutC v j := by
  unfold k0_pay29; exact mark_of v _ (pay28_at v) _ _ _ _ i j
/-- The outlier marks of a chunk, as the body computes them for one of the seven chunks. -/
theorem pay35_at (i : Fin 1) (j : Fin 1024) : k0_pay35 v (ix2 i j) = isOutC v j := by
  unfold k0_pay35; exact mark_of v _ (pay34_at v) _ _ _ _ i j
/-- The outlier marks of a chunk, as the body computes them for one of the seven chunks. -/
theorem pay42_at (i : Fin 1) (j : Fin 1024) : k0_pay42 (k0_pay41 v) (FloatOps.ofBits .f32 1086324736#32) (ix2 i j) = isOutC v j := by
  unfold k0_pay42 k0_pay41; exact mark_of v _ (pay40_at v) _ _ _ _ i j

/-- The stored marks of a chunk. -/
theorem pay6_at (i : Fin 1) (j : Fin 1024) : k0_pay6 v (ix2 i j) = (isOutC v j).setWidth 32 := by
  unfold k0_pay6
  rw [extui_at, pay5_at]

/-- The stored outlier part of a chunk. -/
theorem pay8_at (r : Fin 256) (j : Fin 1024) : k0_pay8 v (ix2 r j) = if isOutC v j = 1 then v (ix2 r j) else 0 := by
  unfold k0_pay8
  rw [shapeCast_self]
  refine (truncf_at _ _ .bf16 bitsLt_bf16_f32).trans ((select_at _ _ _ _).trans ?_)
  rw [spread_of v _ (pay5_at v), broadcast_at, bits_at, bits_zero]
  unfold k0_pay3
  rw [extf_at, shapeCast_self]

/-- The largest magnitude of a chunk's row off its outlier columns. -/
def rmC (r : Fin 256) : EReal := mx fun j => ab (if isOutC v j = 1 then 0 else v (ix2 r j))

/-- The rows' largest magnitudes after the first chunk: those of the chunk, at least zero. -/
theorem pay7_at (r : Fin 256) (i : Fin 1) : k0_pay7 v (ix2 r i) = max 0 (rmC v r) := by
  unfold k0_pay7
  refine (acc_of v _ _ _ (spread_of v _ (pay5_at v) _ _) (pay4_at v) _ _ _ _ r i).trans ?_
  rw [broadcast_at, bits_at, bits_zero]
  rfl

/-- The rows' largest magnitudes after two more chunks, the second and the third. -/
theorem pay19_at (a : FVec Ideal S256x1 .f32) (u : Vec Ideal S256x1024 .bf16) (r : Fin 256) (i : Fin 1) :
    k0_pay19 a (k0_pay10 v) (FloatOps.ofBits .f32 0#32) (k0_pay13 v) u (ix2 r i) = max (max (a (ix2 r i)) (rmC v r)) (rmC u r) := by
  unfold k0_pay19 k0_pay13
  refine (acc_of u _ _ _ (spread_of u _ (pay17_at u) _ _) (pay16_at u) _ _ _ _ r i).trans ?_
  exact congrArg (fun z => max z (rmC u r)) (acc_of v _ _ _ (spread_of v _ (pay11_at v) _ _) (pay10_at v) _ _ _ _ r i)

/-- The rows' largest magnitudes after two more chunks, the fourth and the fifth. -/
theorem pay31_at (a : FVec Ideal S256x1 .f32) (u : Vec Ideal S256x1024 .bf16) (r : Fin 256) (i : Fin 1) :
    k0_pay31 a (k0_pay21 v) u (ix2 r i) = max (max (a (ix2 r i)) (rmC v r)) (rmC u r) := by
  rw [pay21_eq]
  unfold k0_pay31
  refine (acc_of u _ _ _ (spread_of u _ (pay29_at u) _ _) (pay28_at u) _ _ _ _ r i).trans ?_
  exact congrArg (fun z => max z (rmC u r)) (acc_of v _ _ _ (spread_of v _ (pay24_at v) _ _) (pay23_at v) _ _ _ _ r i)

/-- The rows' largest magnitudes after one more chunk, the sixth. -/
theorem pay37_at (a : FVec Ideal S256x1 .f32) (r : Fin 256) (i : Fin 1) :
    k0_pay37 a v (ix2 r i) = max (a (ix2 r i)) (rmC v r) := by
  unfold k0_pay37
  exact acc_of v _ _ _ (spread_of v _ (pay35_at v) _ _) (pay34_at v) _ _ _ _ r i

/-- The rows' scales, from the largest magnitudes after one more chunk, the seventh. -/
theorem pay45_at (a : FVec Ideal S256x1 .f32) (r : Fin 256) (i : Fin 1) :
    k0_pay45 a (k0_pay40 v) (k0_pay41 v) (FloatOps.ofBits .f32 1086324736#32) (ix2 r i) = scaleOf (max (a (ix2 r i)) (rmC v r)) := by
  unfold k0_pay45
  exact scale_at _ _ _ (acc_of v _ _ _ (spread_of v _ (pay42_at v) _ _) (pay40_at v) _ _ _ _ r i)

/-- A mark stored as a word is not zero exactly where the mark is set. -/
theorem ne_zero_mark (b : BitVec 1) : IntOp.cmpi .ne (b.setWidth 32) 0#32 = b := by
  revert b; decide

/-- The codes of a chunk as numbers, for given scales and stored marks. -/
theorem pay50_at (sc : FVec Ideal S256x1 .f32) (mk : Vec Ideal S1x1024 .i32) (hmk : ∀ i j, mk (ix2 i j) = (isOutC v j).setWidth 32)
    (r : Fin 256) (j : Fin 1024) :
    k0_pay50 sc mk v (ix2 r j) = clip (Ideal.div (if isOutC v j = 1 then 0 else v (ix2 r j)) (sc (ix2 r 0))) := by
  unfold k0_pay50
  refine code_at _ _ _ _ _ ((select_at _ _ _ _).trans ?_) (bCol_apply (by decide) _ _ r j)
  rw [spread_of v _ (fun i j => ?_), broadcast_at, bits_at, bits_zero, extf_at, shapeCast_self]
  rw [shapeCast_self]
  show IntOp.cmpi .ne (mk (ix2 i j)) 0#32 = isOutC v j
  rw [hmk, ne_zero_mark]

end Chunk

/-! ### The whole arrays -/

/-- A chunk of the activations, read. -/
theorem xch_at (n : ℕ) (h : n + 1024 ≤ 7168) (r : Fin 256) (k : Fin 1024) :
    xch X n h (ix2 r k) = X (ix2 r ⟨n + k.val, by have := k.isLt; omega⟩) := by
  unfold xch
  show X _ = X _
  congr 1
  funext a
  refine Fin.ext ?_
  match a with
  | ⟨0, _⟩ => exact (Nat.zero_add _).trans (Nat.one_mul _)
  | ⟨1, _⟩ => exact congrArg (n + ·) (Nat.one_mul _)

/-- A chunk of the stored marks, read. -/
theorem mch_at (mk : Vec Ideal S1x7168 .i32) (n : ℕ) (h : n + 1024 ≤ 7168) (i : Fin 1) (k : Fin 1024) :
    mch mk n h (ix2 i k) = mk (ix2 i ⟨n + k.val, by have := k.isLt; omega⟩) := by
  unfold mch
  show mk _ = mk _
  congr 1
  funext a
  refine Fin.ext ?_
  match a with
  | ⟨0, _⟩ => exact (Nat.zero_add _).trans (Nat.one_mul _)
  | ⟨1, _⟩ => exact congrArg (n + ·) (Nat.one_mul _)

/-- The outlier columns of a chunk are those of the array. -/
theorem isOutC_xch (n : ℕ) (h : n + 1024 ≤ 7168) (k : Fin 1024) :
    isOutC (xch X n h) k = isOut X ⟨n + k.val, by have := k.isLt; omega⟩ := by
  unfold isOutC isOut
  exact congrArg (fun z => Ideal.cmp .ogt z (Ideal.ofBits .f32 0x40C00000#32))
    (congrArg mx (funext fun r => congrArg ab (xch_at X n h r k)))

/-- The chunk and the place in the chunk of a column. -/
theorem col_split (w N : ℕ) (hw : 0 < w) (hd : w ∣ N) (j : Fin N) : ∃ (n : ℕ) (k : Fin w), w ∣ n ∧ n + w ≤ N ∧ j.val = n + k.val := by
  refine ⟨w * (j.val / w), ⟨j.val % w, Nat.mod_lt _ hw⟩, Dvd.intro _ rfl, ?_, (Nat.div_add_mod _ _).symm⟩
  obtain ⟨q, rfl⟩ := hd
  have h2 : j.val / w < q := Nat.div_lt_of_lt_mul j.isLt
  calc w * (j.val / w) + w = w * (j.val / w + 1) := (Nat.mul_succ _ _).symm
    _ ≤ w * q := Nat.mul_le_mul_left w h2

/-- The stored marks. -/
theorem maskF_at (i : Fin 1) (j : Fin 7168) : maskF X (ix2 i j) = (isOut X j).setWidth 32 := by
  obtain ⟨n, k, hd, hn, hj⟩ := col_split 1024 7168 (by decide) (by decide) j
  unfold maskF
  refine (glue_at _ _ _ n hn hd (ix2 i k) (ix2 i j) rfl hj).trans ?_
  rw [pay6_at, isOutC_xch]
  exact congrArg (fun z => (isOut X z).setWidth 32) (Fin.ext hj.symm)

/-- The stored outlier part. -/
theorem xoutF_at (r : Fin 256) (j : Fin 7168) : xoutF X (ix2 r j) = outl X r j := by
  obtain ⟨n, k, hd, hn, hj⟩ := col_split 1024 7168 (by decide) (by decide) j
  unfold xoutF
  refine (glue_at _ _ _ n hn hd (ix2 r k) (ix2 r j) rfl hj).trans ?_
  rw [pay8_at, isOutC_xch, xch_at]
  have e : (⟨n + k.val, by have := k.isLt; omega⟩ : Fin 7168) = j := Fin.ext hj.symm
  rw [e]
  rfl

/-- The largest magnitude of a chunk's row off the outlier columns. -/
theorem rmC_le (n : ℕ) (h : n + 1024 ≤ 7168) (r : Fin 256) (c : EReal) :
    rmC (xch X n h) r ≤ c ↔ ∀ k : Fin 1024, ab (reg X r ⟨n + k.val, by have := k.isLt; omega⟩) ≤ c := by
  unfold rmC
  rw [mx_le]
  refine forall_congr' fun k => ?_
  rw [isOutC_xch, xch_at]
  rfl

/-- The rows' largest magnitudes off the outlier columns are the largest over the seven chunks. -/
theorem amax_chunks (r : Fin 256) :
    max (max (max (max (max (max (max 0 (rmC (xch X 0 (by decide)) r)) (rmC (xch X 1024 (by decide)) r)) (rmC (xch X 2048 (by decide)) r))
      (rmC (xch X 3072 (by decide)) r)) (rmC (xch X 4096 (by decide)) r)) (rmC (xch X 5120 (by decide)) r)) (rmC (xch X 6144 (by decide)) r)
      = amax X r := by
  refine eq_of_forall_ge_iff fun c => ?_
  simp only [max_le_iff, rmC_le]
  unfold amax
  rw [mx_le]
  constructor
  · rintro ⟨⟨⟨⟨⟨⟨⟨-, a0⟩, a1⟩, a2⟩, a3⟩, a4⟩, a5⟩, a6⟩ j
    have hj := j.isLt
    have key : ∀ (n : ℕ) (h : n + 1024 ≤ 7168), (∀ k : Fin 1024, ab (reg X r ⟨n + k.val, by have := k.isLt; omega⟩) ≤ c) →
        n ≤ j.val → j.val < n + 1024 → ab (reg X r j) ≤ c := fun n h a h1 h2 => by
      have := a ⟨j.val - n, by omega⟩
      have e : (⟨n + (j.val - n), by omega⟩ : Fin 7168) = j := Fin.ext (by show n + (j.val - n) = j.val; omega)
      exact e ▸ this
    rcases lt_or_ge j.val 1024 with h | h0
    · exact key 0 (by decide) a0 (by omega) (by omega)
    rcases lt_or_ge j.val 2048 with h | h0
    · exact key 1024 (by decide) a1 (by omega) (by omega)
    rcases lt_or_ge j.val 3072 with h | h0
    · exact key 2048 (by decide) a2 (by omega) (by omega)
    rcases lt_or_ge j.val 4096 with h | h0
    · exact key 3072 (by decide) a3 (by omega) (by omega)
    rcases lt_or_ge j.val 5120 with h | h0
    · exact key 4096 (by decide) a4 (by omega) (by omega)
    rcases lt_or_ge j.val 6144 with h | h0
    · exact key 5120 (by decide) a5 (by omega) (by omega)
    · exact key 6144 (by decide) a6 (by omega) (by omega)
  · intro a
    exact ⟨⟨⟨⟨⟨⟨⟨(ab_nonneg _).trans (a 0), fun k => a _⟩, fun k => a _⟩, fun k => a _⟩, fun k => a _⟩, fun k => a _⟩, fun k => a _⟩, fun k => a _⟩

/-- The scales of the rows. -/
theorem xsF_at (r : Fin 256) (i : Fin 1) : xsF X (ix2 r i) = xsc X r := by
  unfold xsF
  rw [pay45_at]
  unfold ax6F
  rw [pay37_at, pay31_at, pay19_at, pay7_at, amax_chunks]
  rfl

/-- The codes of a chunk as numbers. -/
theorem pay50_xch (n : ℕ) (h : n + 1024 ≤ 7168) (r : Fin 256) (k : Fin 1024) (j : Fin 7168) (hj : j.val = n + k.val) :
    k0_pay50 (xsF X) (mch (maskF X) n h) (xch X n h) (ix2 r k) = xcode X r j := by
  have e : (⟨n + k.val, by have := k.isLt; omega⟩ : Fin 7168) = j := Fin.ext hj.symm
  rw [pay50_at, isOutC_xch, xch_at, xsF_at, e]
  · rfl
  · intro i k'
    rw [mch_at, maskF_at, isOutC_xch]

/-- The stored codes of the activations. -/
theorem xcF_at (r : Fin 256) (j : Fin 7168) : xcF X (ix2 r j) = Ideal.fptosi 8 (xcode X r j) := by
  obtain ⟨n, k, hd, hn, hj⟩ := col_split 1024 7168 (by decide) (by decide) j
  unfold xcF xcG
  refine (glue_at _ _ _ n hn hd (ix2 r k) (ix2 r j) rfl hj).trans ?_
  unfold k0_pay51
  exact (fptosi_at _ _ _).trans (congrArg (Ideal.fptosi 8) (pay50_xch X n hn r k j hj))

/-- The codes of the activations as numbers. -/
theorem codesF_at (r : Fin 256) (j : Fin 7168) : codesF X (ix2 r j) = xcode X r j := by
  obtain ⟨n, k, hd, hn, hj⟩ := col_split 1024 7168 (by decide) (by decide) j
  unfold codesF codesG
  refine (glue_at _ _ _ n hn hd (ix2 r k) (ix2 r j) rfl hj).trans ?_
  unfold k0_pay52
  rw [shapeCast_self]
  exact (truncf_at _ _ .bf16 bitsLt_bf16_f32).trans (pay50_xch X n hn r k j hj)

/-! ### The outputs, block by block -/

/-- The products contract the last axes of both sides. -/
theorem dot_eq : dot_S256x7168_S512x7168_S256x512_1_1_0_0_n_n = DotDims.transposedRhs 256 7168 512 := by
  unfold dot_S256x7168_S512x7168_S256x512_1_1_0_0_n_n DotDims.transposedRhs
  rfl

section Out
variable (W : (⟨2, ![18432, 7168]⟩ : Shape).Idx → BitVec 8) (WS B : (⟨2, ![1, 18432]⟩ : Shape).Idx → EReal)
  (R : (⟨2, ![256, 18432]⟩ : Shape).Idx → EReal)

/-- A block of outputs is that block of the specification's, for the operands' blocks. -/
theorem pay108_at (w : Vec Ideal S512x7168 .i8) (ws b : Vec Ideal S1x512 .f32) (res : Vec Ideal S256x512 .bf16)
    (r : Fin 256) (q : Fin 512) (n : Fin 18432) (hw : ∀ k, w (ix2 q k) = W (ix2 n k)) (hws : ws (ix2 0 q) = WS (ix2 0 n))
    (hb : b (ix2 0 q) = B (ix2 0 n)) (hr : res (ix2 r q) = R (ix2 r n)) :
    k0_pay108 w (codesF X) (xoutF X) (xsF X) ws b res (ix2 r q) = out X W WS B R r n := by
  unfold k0_pay108 out
  refine (truncf_at _ _ .bf16 bitsLt_bf16_f32).trans ?_
  refine (addf_at _ _ _).trans (congrArg₂ (fun a b : EReal => a + b) ?_ ?_)
  · refine (addf_at _ _ _).trans (congrArg₂ (fun a b : EReal => a + b) ?_ ?_)
    · refine (mulf_at _ _ _).trans (congrArg₂ (fun a b : EReal => a * b) ?_ ?_)
      · refine (addf_at _ _ _).trans (congrArg₂ (fun a b : EReal => a + b) ?_ ?_)
        · refine (mulf_at _ _ _).trans (congrArg₂ (fun a b : EReal => a * b) ?_ ?_)
          · refine (prod_apply _ dot_eq _ _ r q).trans (Finset.sum_congr rfl fun k _ => ?_)
            refine congrArg₂ (fun a b : EReal => a * b) (codesF_at X r k) ((sitofp_at _ _).trans ?_)
            rw [hw]
          · refine (bCol_apply (by decide) _ _ r q).trans ?_
            rw [shapeCast_self]
            exact xsF_at X r 0
        · refine (prod_apply _ dot_eq _ _ r q).trans (Finset.sum_congr rfl fun k _ => ?_)
          refine congrArg₂ (fun a b : EReal => a * b) (xoutF_at X r k) ((sitofp_at _ _).trans ?_)
          rw [hw]
      · refine (bRow_apply (by decide) _ _ r q).trans ?_
        rw [shapeCast_self]
        exact hws
    · refine (bRow_apply (by decide) _ _ r q).trans ?_
      rw [shapeCast_self]
      exact hb
  · refine (extf_at _ _ .f32 bitsLt_bf16_f32).trans ?_
    rw [shapeCast_self]
    exact hr

/-- The running largest magnitudes before the first block. -/
theorem pay107_at (r : Fin 256) (i : Fin 1) : k0_pay107 (F := Ideal) (ix2 r i) = 0 := by
  unfold k0_pay107
  rw [shapeCast_self]
  exact bits_zero

/-- One block taken into the running largest magnitudes. -/
theorem pay1_at (y : FVec Ideal S256x512 .bf16) (a : Vec Ideal S256x1 .f32) (r : Fin 256) (i : Fin 1) :
    k0_pay1 y a (ix2 r i) = max (a (ix2 r i)) (mx fun q => ab (y (ix2 r q))) := by
  unfold k0_pay1
  rw [shapeCast_self]
  refine (max_at _ _ _).trans (congrArg (max (a (ix2 r i))) ((rowmax_apply _ _ _ _ _ r i).trans ?_))
  exact congrArg mx (funext fun q => absf_at _ _)

/-- The scales of the output rows from their largest magnitudes. -/
theorem pay70_at (a : Vec Ideal S256x1 .f32) (r : Fin 256) (i : Fin 1) : k0_pay70 a (ix2 r i) = scaleOf (a (ix2 r i)) := by
  unfold k0_pay70
  exact scale_at _ _ _ rfl

/-- The stored codes of a block of outputs. -/
theorem pay2_at (sc : FVec Ideal S256x1 .f32) (v : Vec Ideal S1x256x512 .bf16) (y : Vec Ideal S256x512 .bf16)
    (hv : shapeCast S256x512 v shapeCasts_S1x256x512_S256x512 = y) (r : Fin 256) (q : Fin 512) :
    k0_pay2 sc v (ix2 r q) = Ideal.fptosi 8 (clip (Ideal.div (y (ix2 r q)) (sc (ix2 r 0)))) := by
  unfold k0_pay2
  rw [hv]
  refine (fptosi_at _ _ _).trans (congrArg (Ideal.fptosi 8) ?_)
  exact code_at _ _ _ _ _ (extf_at _ _ .f32 bitsLt_bf16_f32) (bCol_apply (by decide) _ _ r q)

/-- The quantised outputs from the scales and the stack of output blocks. -/
theorem ycF_at (sc : Vec Ideal S256x1 .f32) (Y : Vec Ideal S36x256x512 .bf16) (r : Fin 256) (k : Fin 36) (q : Fin 512) (n : Fin 18432)
    (hn : n.val = 512 * k.val + q.val) :
    ycF sc Y (ix2 r n) = Ideal.fptosi 8 (clip (Ideal.div (Y (ix3 k r q)) (sc (ix2 r 0)))) := by
  unfold ycF
  have hk := k.isLt
  refine (glue_at _ _ _ (512 * k.val) (by omega) (Dvd.intro _ rfl) (ix2 r q) (ix2 r n) rfl hn).trans ?_
  have e : 512 * k.val / 512 = k.val := Nat.mul_div_cancel_left _ (by decide)
  refine pay2_at sc _ (plane (K := 36) (r := 256) (c := 512) Y k) ?_ r q
  have : ∀ (k' : ℕ) (h : k' < 36), k' = k.val → shapeCast S256x512 (View.ld (S := S36x256x512) Y
      (Rect.unit (s := S36x256x512) ![k', 0, 0] S1x256x512.size (inbY k' h))) shapeCasts_S1x256x512_S256x512
        = plane (K := 36) (r := 256) (c := 512) Y k := by
    rintro _ h rfl
    exact shapeCast_ld_plane (Val := Elt Ideal) (e := .bf16) Y k _ _
  exact this _ (by omega) e

end Out

end Cert.KerAlg

end
-- ==== Proof.Algebra.KerRun.lean ====
/- The kernel's result arrays after a run, as the mathematics of `Proof/Spec.lean` of the argument arrays. -/
module

public import proofs.«01_k».proof.Proof.Algebra.Ker
public import proofs.«01_k».proof.Proof.KernelIdeal.Frame
public import Idealize.ShloMosaic.Lib.Pipeline.ValueKit
public import Idealize.ShloMosaic.Lib.Claim

@[expose] public section

set_option maxRecDepth 16384

noncomputable section

namespace Cert.KerAlg

open Idealize.ShloMosaic hiding ix1 ix2 ix3 eq_ix1 eq_ix2 eq_ix3
open Idealize.ShloMosaic.TcCoe Idealize.ShloMosaic.ValueIdx Idealize.SL.Sem
open Cert.KernelIdeal Cert.KernelIdeal.Gen Cert.Spec Cert.Tiles

variable (m : (ℓ : Loc nD τ sig) → Buf (Elt Ideal) ℓ) (c : Dev nD)

/-! ### The operands -/

/-- The activations as a matrix of 256 rows. -/
def aX : Vec Ideal S256x7168 .bf16 := shapeCast S256x7168 (m ((c : Thread nD τ).loc main_arg0)) shapeCasts_S2x128x7168_S256x7168
/-- The weights. -/
def aW : Vec Ideal S18432x7168 .i8 := m ((c : Thread nD τ).loc main_arg1)
/-- The weights' scales as a row. -/
def aS : Vec Ideal S1x18432 .f32 := shapeCast S1x18432 (m ((c : Thread nD τ).loc main_arg2)) shapeCasts_S18432_S1x18432
/-- The bias as a row. -/
def aB : Vec Ideal S1x18432 .f32 := shapeCast S1x18432 (m ((c : Thread nD τ).loc main_arg3)) shapeCasts_S18432_S1x18432
/-- The residual as a matrix of 256 rows. -/
def aR : Vec Ideal S256x18432 .bf16 := shapeCast S256x18432 (m ((c : Thread nD τ).loc main_arg4)) shapeCasts_S2x128x18432_S256x18432

/-- The host computes from the arguments the activations as a matrix. -/
theorem V_v0 : V m c main_v0 = aX m c := by
  entry_read; rfl
/-- The host computes from the arguments the weights' scales as a row. -/
theorem V_v1 : V m c main_v1 = aS m c := by
  entry_read; rfl
/-- The host computes from the arguments the bias as a row. -/
theorem V_v2 : V m c main_v2 = aB m c := by
  entry_read; rfl
/-- The host computes from the arguments the residual as a matrix. -/
theorem V_v3 : V m c main_v3 = aR m c := by
  entry_read; rfl

/-- Window 0 is at block (0, 0) at every point. -/
theorem idx0 : ∀ t : Fin cfg0.N, win0_0.index t = ![0, 0] := (by decide +kernel : ∀ t : Fin grid0.N, win0_0.index t = ![0, 0])
/-- Window 1 moves down one block of rows with each point. -/
theorem idx1 : ∀ t : Fin cfg0.N, win0_1.index t = ![t.val, 0] := (by decide +kernel : ∀ t : Fin grid0.N, win0_1.index t = ![t.val, 0])
/-- Window 2 moves right one block of columns with each point. -/
theorem idx2 : ∀ t : Fin cfg0.N, win0_2.index t = ![0, t.val] := (by decide +kernel : ∀ t : Fin grid0.N, win0_2.index t = ![0, t.val])
/-- Window 3 moves right one block of columns with each point. -/
theorem idx3 : ∀ t : Fin cfg0.N, win0_3.index t = ![0, t.val] := (by decide +kernel : ∀ t : Fin grid0.N, win0_3.index t = ![0, t.val])
/-- Window 4 moves right one block of columns with each point. -/
theorem idx4 : ∀ t : Fin cfg0.N, win0_4.index t = ![0, t.val] := (by decide +kernel : ∀ t : Fin grid0.N, win0_4.index t = ![0, t.val])
/-- Window 5 moves right one block of columns with each point. -/
theorem idx5 : ∀ t : Fin cfg0.N, win0_5.index t = ![0, t.val] := (by decide +kernel : ∀ t : Fin grid0.N, win0_5.index t = ![0, t.val])
/-- Window 6 is at block (0, 0) at every point. -/
theorem idx6 : ∀ t : Fin cfg0.N, win0_6.index t = ![0, 0] := (by decide +kernel : ∀ t : Fin grid0.N, win0_6.index t = ![0, 0])
/-- Window 7 is at block (0, 0) at every point. -/
theorem idx7 : ∀ t : Fin cfg0.N, win0_7.index t = ![0, 0] := (by decide +kernel : ∀ t : Fin grid0.N, win0_7.index t = ![0, 0])
/-- Window 8 is at block (0, 0) at every point. -/
theorem idx8 : ∀ t : Fin cfg0.N, win0_8.index t = ![0, 0] := (by decide +kernel : ∀ t : Fin grid0.N, win0_8.index t = ![0, 0])
/-- Window 9 is at block (0, 0) at every point. -/
theorem idx9 : ∀ t : Fin cfg0.N, win0_9.index t = ![0, 0] := (by decide +kernel : ∀ t : Fin grid0.N, win0_9.index t = ![0, 0])
/-- Window 10 is at block (0, 0) at every point. -/
theorem idx10 : ∀ t : Fin cfg0.N, win0_10.index t = ![0, 0] := (by decide +kernel : ∀ t : Fin grid0.N, win0_10.index t = ![0, 0])

/-- The activations the body reads. -/
theorem x0_eq : x0 m c = aX m c := by
  rw [← V_v0]
  funext y
  unfold x0 iblk
  show V m c main_v0 _ = V m c main_v0 _
  blk_ext [idx0 pt0]

/-- A block of the weights. -/
theorem w_at (t : Fin cfg0.N) (q : Fin 512) (k : Fin 7168) (n : Fin 18432) (hn : n.val = 512 * t.val + q.val) :
    iblk m c 1 t (ix2 q k) = aW m c (ix2 n k) := by
  unfold aW
  rw [← V_main_arg1 m c]
  unfold iblk
  show V m c main_arg1 _ = V m c main_arg1 _
  blk_ext [idx1 t]
  show t.val * 512 + q.val = n.val
  omega

/-- A block of the weights' scales. -/
theorem s_at (t : Fin cfg0.N) (q : Fin 512) (n : Fin 18432) (hn : n.val = 512 * t.val + q.val) :
    iblk m c 2 t (ix2 0 q) = aS m c (ix2 0 n) := by
  rw [← V_v1 m c]
  unfold iblk
  show V m c main_v1 _ = V m c main_v1 _
  blk_ext [idx2 t]
  show t.val * 512 + q.val = n.val
  omega

/-- A block of the bias. -/
theorem b_at (t : Fin cfg0.N) (q : Fin 512) (n : Fin 18432) (hn : n.val = 512 * t.val + q.val) :
    iblk m c 3 t (ix2 0 q) = aB m c (ix2 0 n) := by
  rw [← V_v2 m c]
  unfold iblk
  show V m c main_v2 _ = V m c main_v2 _
  blk_ext [idx3 t]
  show t.val * 512 + q.val = n.val
  omega

/-- A block of the residual. -/
theorem r_at (t : Fin cfg0.N) (r : Fin 256) (q : Fin 512) (n : Fin 18432) (hn : n.val = 512 * t.val + q.val) :
    iblk m c 4 t (ix2 r q) = aR m c (ix2 r n) := by
  rw [← V_v3 m c]
  unfold iblk
  show V m c main_v3 _ = V m c main_v3 _
  blk_ext [idx4 t]
  show t.val * 512 + q.val = n.val
  omega

/-! ### The values -/

/-- A block of outputs is that block of the specification's. -/
theorem yAt_at (t : Fin cfg0.N) (r : Fin 256) (q : Fin 512) (n : Fin 18432) (hn : n.val = 512 * t.val + q.val) :
    yAt m c t (ix2 r q) = out (aX m c) (aW m c) (aS m c) (aB m c) (aR m c) r n := by
  unfold yAt
  rw [x0_eq]
  exact pay108_at (aX m c) (aW m c) (aS m c) (aB m c) (aR m c) _ _ _ _ r q n (fun k => w_at m c t q k n hn)
    (s_at m c t q n hn) (b_at m c t q n hn) (r_at m c t r q n hn)

/-- The running largest magnitudes, bounded. -/
theorem amaxAt_le (r : Fin 256) (i : Fin 1) (b : EReal) : ∀ n : ℕ, n ≤ 36 → (amaxAt m c n (ix2 r i) ≤ b ↔
    0 ≤ b ∧ ∀ j : Fin 18432, j.val < 512 * n → ab (out (aX m c) (aW m c) (aS m c) (aB m c) (aR m c) r j) ≤ b)
  | 0, _ => by
    rw [amaxAt, pay107_at]
    exact ⟨fun h => ⟨h, fun j hj => absurd hj (by omega)⟩, fun h => h.1⟩
  | n + 1, hn => by
    rw [amaxAt, dif_pos (show n < 36 from hn), pay1_at, max_le_iff, amaxAt_le r i b n (by omega), mx_le]
    constructor
    · rintro ⟨⟨h0, h1⟩, h2⟩
      refine ⟨h0, fun j hj => ?_⟩
      rcases lt_or_ge j.val (512 * n) with h | h
      · exact h1 j h
      · have := h2 ⟨j.val - 512 * n, by omega⟩
        rwa [yAt_at m c _ r _ j (by show j.val = 512 * n + (j.val - 512 * n); omega)] at this
    · rintro ⟨h0, h1⟩
      refine ⟨⟨h0, fun j hj => h1 j (by omega)⟩, fun q => ?_⟩
      have hq := q.isLt
      rw [yAt_at m c _ r q ⟨512 * n + q.val, by omega⟩ rfl]
      exact h1 _ (by show 512 * n + q.val < 512 * (n + 1); omega)

/-- The largest magnitudes of the output rows. -/
theorem amaxAt_last (r : Fin 256) (i : Fin 1) :
    amaxAt m c 36 (ix2 r i) = ymax (aX m c) (aW m c) (aS m c) (aB m c) (aR m c) r := by
  refine eq_of_forall_ge_iff fun b => ?_
  rw [amaxAt_le m c r i b 36 le_rfl]
  unfold ymax
  rw [mx_le]
  exact ⟨fun h j => h.2 j j.isLt, fun h => ⟨(ab_nonneg _).trans (h 0), fun j _ => h j⟩⟩

/-- The scales of the output rows. -/
theorem ysAll_at (r : Fin 256) (i : Fin 1) : ysAll m c (ix2 r i) = ysc (aX m c) (aW m c) (aS m c) (aB m c) (aR m c) r := by
  unfold ysAll
  rw [pay70_at, amaxAt_last]
  rfl

/-- The stored codes of the outputs. -/
theorem ycAll_at (r : Fin 256) (n : Fin 18432) :
    ycAll m c (ix2 r n) = Ideal.fptosi 8 (ycode (aX m c) (aW m c) (aS m c) (aB m c) (aR m c) r n) := by
  have hn := n.isLt
  have e : n.val = 512 * (n.val / 512) + n.val % 512 := (Nat.div_add_mod _ _).symm
  unfold ycAll
  rw [ycF_at (ysAll m c) (yAll m c) r ⟨n.val / 512, by omega⟩ ⟨n.val % 512, by omega⟩ n e, ysAll_at]
  unfold yAll
  refine congrArg (fun z => Ideal.fptosi 8 (clip (Ideal.div z (ysc (aX m c) (aW m c) (aS m c) (aB m c) (aR m c) r)))) ?_
  exact yAt_at m c _ r _ n e

/-! ### The arrays after the run -/

/-- The outputs. -/
theorem fin5 : (dats m 0 c).arrAt 5 cfg0.N = fun y : S256x18432.Idx => out (aX m c) (aW m c) (aS m c) (aB m c) (aR m c) (y 0) (y 1) := by
  refine (dats m 0 c).arrAt_eq_of_covers 5 _ (by decide +kernel) fun t hf y => ?_
  blk_simp
  rw [after0_5]
  have e0 : ((win0_5.blk t).view.emb y 0 : Fin 256).val = (y 0).val := by blk_simp [idx5 t]
  have e1 : ((win0_5.blk t).view.emb y 1 : Fin 18432).val = 512 * t.val + (y 1).val := by
    blk_simp [idx5 t]; exact congrArg (· + (y 1).val) (Nat.mul_comm _ _)
  refine (congrArg (yAt m c t) (eq_ix2 (n0 := 256) (n1 := 512) y)).trans ((yAt_at m c t (y 0) (y 1) _ e1).trans ?_)
  exact congrArg (fun z : Fin 256 => out (aX m c) (aW m c) (aS m c) (aB m c) (aR m c) z ((win0_5.blk t).view.emb y 1)) (Fin.ext e0.symm)

/-- The marks of the outlier columns. -/
theorem fin6 : (dats m 0 c).arrAt 6 cfg0.N = fun y : S1x7168.Idx => (isOut (aX m c) (y 1)).setWidth 32 := by
  refine (dats m 0 c).arrAt_eq_of_covers 6 _ (by decide +kernel) fun t hf y => ?_
  have e : (win0_6.blk t).view.emb y = (ix2 (y 0) (y 1) : S1x7168.Idx) := by blk_ext [idx6 t]
  blk_simp
  rw [after0_6, x0_eq, e]
  exact (congrArg _ (eq_ix2 (n0 := 1) (n1 := 7168) y)).trans (maskF_at (aX m c) (y 0) (y 1))

/-- The codes of the activations. -/
theorem fin7 : (dats m 0 c).arrAt 7 cfg0.N = fun y : S256x7168.Idx => Ideal.fptosi 8 (xcode (aX m c) (y 0) (y 1)) := by
  refine (dats m 0 c).arrAt_eq_of_covers 7 _ (by decide +kernel) fun t hf y => ?_
  have e : (win0_7.blk t).view.emb y = (ix2 (y 0) (y 1) : S256x7168.Idx) := by blk_ext [idx7 t]
  blk_simp
  rw [after0_7, x0_eq, e]
  exact (congrArg _ (eq_ix2 (n0 := 256) (n1 := 7168) y)).trans (xcF_at (aX m c) (y 0) (y 1))

/-- The scales of the activation rows. -/
theorem fin8 : (dats m 0 c).arrAt 8 cfg0.N = fun y : S256x1.Idx => xsc (aX m c) (y 0) := by
  refine (dats m 0 c).arrAt_eq_of_covers 8 _ (by decide +kernel) fun t hf y => ?_
  have e : (win0_8.blk t).view.emb y = (ix2 (y 0) (y 1) : S256x1.Idx) := by blk_ext [idx8 t]
  blk_simp
  rw [after0_8, x0_eq, e]
  exact (congrArg _ (eq_ix2 (n0 := 256) (n1 := 1) y)).trans (xsF_at (aX m c) (y 0) (y 1))

/-- The codes of the outputs. -/
theorem fin9 : (dats m 0 c).arrAt 9 cfg0.N = fun y : S256x18432.Idx => Ideal.fptosi 8 (ycode (aX m c) (aW m c) (aS m c) (aB m c) (aR m c) (y 0) (y 1)) := by
  refine (dats m 0 c).arrAt_eq_of_covers 9 _ (by decide +kernel) fun t hf y => ?_
  have e : (win0_9.blk t).view.emb y = (ix2 (y 0) (y 1) : S256x18432.Idx) := by blk_ext [idx9 t]
  blk_simp
  rw [after0_9, e]
  exact (congrArg _ (eq_ix2 (n0 := 256) (n1 := 18432) y)).trans (ycAll_at m c (y 0) (y 1))

/-- The scales of the output rows. -/
theorem fin10 : (dats m 0 c).arrAt 10 cfg0.N = fun y : S256x1.Idx => ysc (aX m c) (aW m c) (aS m c) (aB m c) (aR m c) (y 0) := by
  refine (dats m 0 c).arrAt_eq_of_covers 10 _ (by decide +kernel) fun t hf y => ?_
  have e : (win0_10.blk t).view.emb y = (ix2 (y 0) (y 1) : S256x1.Idx) := by blk_ext [idx10 t]
  blk_simp
  rw [after0_10, e]
  exact (congrArg _ (eq_ix2 (n0 := 256) (n1 := 1) y)).trans (ysAll_at m c (y 0) (y 1))

end Cert.KerAlg

end
-- ==== Proof.Algebra.Ref.lean ====
/- The values the reference's body stores, as the mathematics of `Proof/Spec.lean`, at every index. -/
module

public import proofs.«01_k».proof.Proof.Spec
public import proofs.«01_k».proof.Proof.Gen.ReferenceIdeal.Skeleton

@[expose] public section

noncomputable section

namespace Cert.RefAlg

open Idealize.ShloMosaic Idealize.ShloMosaic.ValueIdx
open Cert.ReferenceIdeal Cert.ReferenceIdeal.Gen Cert.Spec
open scoped BigOperators

variable (X : Vec Ideal S256x7168 .bf16) (W : Vec Ideal S18432x7168 .i8) (WS B : Vec Ideal S1x18432 .f32) (R : Vec Ideal S256x18432 .bf16)

/-- The activations recast to their own shape are themselves. -/
theorem pay1_eq : k0_pay1 X = X := shapeCast_self X _

/-- The activations recast to their own shape are themselves. -/
theorem pay2_eq : k0_pay2 X = X := shapeCast_self X _

/-- The outlier marks as one bit, -/
theorem pay3_apply (i : Fin 1) (j : Fin 7168) : k0_pay3 X (ix2 i j) = isOut X j := by
  unfold k0_pay3
  refine (cmpf_at _ _ _ _).trans ?_
  refine congrArg₂ (Ideal.cmp .ogt) ((colmax_apply _ _ _ _ _ i j).trans ?_) rfl
  rw [pay2_eq]
  rfl

/-- and as stored. -/
theorem pay4_apply (i : Fin 1) (j : Fin 7168) : k0_pay4 X (ix2 i j) = (isOut X j).setWidth 32 := by
  unfold k0_pay4
  rw [extui_at, pay3_apply]

/-- The mark of a column spread over the rows. -/
theorem mark_apply (r : Fin 256) (j : Fin 7168) :
    broadcastTo S256x7168 (shapeCast S1x7168 (k0_pay3 X) shapeCasts_S1x7168_S1x7168) broadcasts_S1x7168_S256x7168 (ix2 r j) = isOut X j := by
  rw [shapeCast_self]
  exact (bRow_apply (by decide) _ _ r j).trans (pay3_apply X 0 j)

/-- The activations off the outlier columns. -/
theorem pay6_apply (r : Fin 256) (j : Fin 7168) : k0_pay6 X (ix2 r j) = reg X r j := by
  unfold k0_pay6
  rw [select_at, mark_apply, pay2_eq, broadcast_at, bits_at, bits_zero]
  unfold reg
  rfl

/-- The scales of the rows. -/
theorem pay7_apply (r : Fin 256) (i : Fin 1) : k0_pay7 X (ix2 r i) = xsc X r := by
  unfold k0_pay7
  refine scale_at _ _ _ ((rowmax_apply _ _ _ _ _ r i).trans ?_)
  unfold amax
  exact congrArg mx (funext fun j => (absf_at _ _).trans (congrArg ab (pay6_apply X r j)))

/-- The stored codes of the activations. -/
theorem pay8_apply (r : Fin 256) (j : Fin 7168) : k0_pay8 X (ix2 r j) = Ideal.fptosi 8 (xcode X r j) := by
  unfold k0_pay8
  refine (fptosi_at _ _ _).trans (congrArg (Ideal.fptosi 8) ?_)
  refine code_at _ _ _ _ _ (pay6_apply X r j) ?_
  exact (bCol_apply (by decide) _ _ r j).trans (pay7_apply X r 0)

/-- The products contract the last axes of both sides. -/
theorem dot_eq : dot_S256x7168_S18432x7168_S256x18432_1_1_0_0_n_n = DotDims.transposedRhs 256 7168 18432 := by
  unfold dot_S256x7168_S18432x7168_S256x18432_1_1_0_0_n_n DotDims.transposedRhs
  rfl

/-- The product of the codes and the weights. -/
theorem pay9_apply (r : Fin 256) (n : Fin 18432) :
    k0_pay9 X W (ix2 r n) = ∑ k : Fin 7168, xcode X r k * (((W (ix2 n k)).toInt : ℝ) : EReal) := by
  unfold k0_pay9
  refine (prod_apply _ dot_eq _ _ r n).trans (Finset.sum_congr rfl fun k _ => ?_)
  refine congrArg₂ (fun a b : EReal => a * b) ?_ (sitofp_at _ _)
  refine (sitofp_at _ _).trans ?_
  rw [pay8_apply]
  unfold xcode
  exact clip_roundtrip _

/-- The outputs. -/
theorem pay10_apply (r : Fin 256) (n : Fin 18432) :
    k0_pay10 (k0_pay1 X) (k0_pay3 X) (k0_pay5 W) (k0_pay7 X) (k0_pay9 X W) WS B R (ix2 r n) = out X W WS B R r n := by
  unfold k0_pay10 out
  refine (truncf_at _ _ .bf16 bitsLt_bf16_f32).trans ?_
  refine (addf_at _ _ _).trans (congrArg₂ (fun a b : EReal => a + b) ?_ ?_)
  · refine (addf_at _ _ _).trans (congrArg₂ (fun a b : EReal => a + b) ?_ ?_)
    · refine (mulf_at _ _ _).trans (congrArg₂ (fun a b : EReal => a * b) ?_ ?_)
      · refine (addf_at _ _ _).trans (congrArg₂ (fun a b : EReal => a + b) ?_ ?_)
        · refine (mulf_at _ _ _).trans (congrArg₂ (fun a b : EReal => a * b) (pay9_apply X W r n) ?_)
          exact (bCol_apply (by decide) _ _ r n).trans (pay7_apply X r 0)
        · refine (prod_apply _ dot_eq _ _ r n).trans (Finset.sum_congr rfl fun k _ => ?_)
          refine congrArg₂ (fun a b : EReal => a * b) ?_ (sitofp_at _ _)
          refine (select_at _ _ _ _).trans ?_
          rw [mark_apply, pay1_eq, broadcast_at, bits_at, bits_zero16]
          unfold outl
          rfl
      · refine (bRow_apply (by decide) _ _ r n).trans ?_
        rw [shapeCast_self]
    · refine (bRow_apply (by decide) _ _ r n).trans ?_
      rw [shapeCast_self]
  · refine (extf_at _ _ .f32 bitsLt_bf16_f32).trans ?_
    rw [shapeCast_self]

/-- The outputs as they are quantised. -/
theorem pay11_apply (r : Fin 256) (n : Fin 18432) :
    k0_pay11 (k0_pay1 X) (k0_pay3 X) (k0_pay5 W) (k0_pay7 X) (k0_pay9 X W) WS B R (ix2 r n) = out X W WS B R r n := by
  unfold k0_pay11
  exact (extf_at _ _ .f32 bitsLt_bf16_f32).trans (pay10_apply X W WS B R r n)

/-- The scales of the output rows. -/
theorem pay12_apply (r : Fin 256) (i : Fin 1) :
    k0_pay12 (k0_pay1 X) (k0_pay3 X) (k0_pay5 W) (k0_pay7 X) (k0_pay9 X W) WS B R (ix2 r i) = ysc X W WS B R r := by
  unfold k0_pay12
  refine scale_at _ _ _ ((rowmax_apply _ _ _ _ _ r i).trans ?_)
  unfold ymax
  exact congrArg mx (funext fun j => (absf_at _ _).trans (congrArg ab (pay11_apply X W WS B R r j)))

/-- The stored codes of the outputs. -/
theorem pay13_apply (r : Fin 256) (n : Fin 18432) :
    k0_pay13 (k0_pay1 X) (k0_pay3 X) (k0_pay5 W) (k0_pay7 X) (k0_pay9 X W) WS B R (ix2 r n) = Ideal.fptosi 8 (ycode X W WS B R r n) := by
  unfold k0_pay13
  refine (fptosi_at _ _ _).trans (congrArg (Ideal.fptosi 8) ?_)
  refine code_at _ _ _ _ _ (pay11_apply X W WS B R r n) ?_
  exact (bCol_apply (by decide) _ _ r n).trans (pay12_apply X W WS B R r 0)

end Cert.RefAlg

end
-- ==== Proof.Algebra.RefRun.lean ====
/- The reference's result arrays after a run, as the mathematics of `Proof/Spec.lean` of the argument arrays. -/
module

public import proofs.«01_k».proof.Proof.Algebra.Ref
public import proofs.«01_k».proof.Proof.Gen.ReferenceIdeal.Value
public import proofs.«01_k».proof.Proof.Tiles
public import Idealize.ShloMosaic.Lib.Pipeline.ValueKit
public import Idealize.ShloMosaic.Lib.Claim

@[expose] public section

set_option maxRecDepth 16384

noncomputable section

namespace Cert.RefAlg

open Idealize.ShloMosaic hiding ix1 ix2 ix3 eq_ix1 eq_ix2 eq_ix3
open Idealize.ShloMosaic.TcCoe Idealize.ShloMosaic.ValueIdx Idealize.SL.Sem
open Cert.ReferenceIdeal Cert.ReferenceIdeal.Gen Cert.Spec Cert.Tiles

variable (m : (ℓ : Loc nD τ sig) → Buf (Elt Ideal) ℓ) (c : Dev nD)

/-! ### The operands -/

/-- The activations as a matrix of 256 rows. -/
def aX : Vec Ideal S256x7168 .bf16 := shapeCast S256x7168 (m ((c : Thread nD τ).loc main_arg0)) shapeCasts_S2x128x7168_S256x7168
/-- The weights. -/
def aW : Vec Ideal S18432x7168 .i8 := m ((c : Thread nD τ).loc main_arg1)
/-- The weights' scales as a row. -/
def aS : Vec Ideal S1x18432 .f32 := shapeCast S1x18432 (m ((c : Thread nD τ).loc main_arg2)) shapeCasts_S18432_S1x18432
/-- The bias as a row. -/
def aB : Vec Ideal S1x18432 .f32 := shapeCast S1x18432 (m ((c : Thread nD τ).loc main_arg3)) shapeCasts_S18432_S1x18432
/-- The residual as a matrix of 256 rows. -/
def aR : Vec Ideal S256x18432 .bf16 := shapeCast S256x18432 (m ((c : Thread nD τ).loc main_arg4)) shapeCasts_S2x128x18432_S256x18432

/-- The host computes from the arguments the activations as a matrix. -/
theorem V_v0 : V m c main_v0 = aX m c := by
  entry_read; rfl
/-- The host computes from the arguments the weights' scales as a row. -/
theorem V_v1 : V m c main_v1 = aS m c := by
  entry_read; rfl
/-- The host computes from the arguments the bias as a row. -/
theorem V_v2 : V m c main_v2 = aB m c := by
  entry_read; rfl
/-- The host computes from the arguments the residual as a matrix. -/
theorem V_v3 : V m c main_v3 = aR m c := by
  entry_read; rfl

/-- Window 0 is at block (0, 0) at every point. -/
theorem idx0 : ∀ t : Fin cfg0.N, win0_0.index t = ![0, 0] := (by decide +kernel : ∀ t : Fin grid0.N, win0_0.index t = ![0, 0])
/-- Operand 0 is read whole. -/
theorem iblk0_eq (t : Fin cfg0.N) : iblk m c 0 t = aX m c := by
  rw [← V_v0 m c]
  funext y
  unfold iblk
  show V m c main_v0 _ = V m c main_v0 _
  blk_ext [idx0 t]

/-- Window 1 is at block (0, 0) at every point. -/
theorem idx1 : ∀ t : Fin cfg0.N, win0_1.index t = ![0, 0] := (by decide +kernel : ∀ t : Fin grid0.N, win0_1.index t = ![0, 0])
/-- Operand 1 is read whole. -/
theorem iblk1_eq (t : Fin cfg0.N) : iblk m c 1 t = aW m c := by
  unfold aW
  rw [← V_main_arg1 m c]
  funext y
  unfold iblk
  show V m c main_arg1 _ = V m c main_arg1 _
  blk_ext [idx1 t]

/-- Window 2 is at block (0, 0) at every point. -/
theorem idx2 : ∀ t : Fin cfg0.N, win0_2.index t = ![0, 0] := (by decide +kernel : ∀ t : Fin grid0.N, win0_2.index t = ![0, 0])
/-- Operand 2 is read whole. -/
theorem iblk2_eq (t : Fin cfg0.N) : iblk m c 2 t = aS m c := by
  rw [← V_v1 m c]
  funext y
  unfold iblk
  show V m c main_v1 _ = V m c main_v1 _
  blk_ext [idx2 t]

/-- Window 3 is at block (0, 0) at every point. -/
theorem idx3 : ∀ t : Fin cfg0.N, win0_3.index t = ![0, 0] := (by decide +kernel : ∀ t : Fin grid0.N, win0_3.index t = ![0, 0])
/-- Operand 3 is read whole. -/
theorem iblk3_eq (t : Fin cfg0.N) : iblk m c 3 t = aB m c := by
  rw [← V_v2 m c]
  funext y
  unfold iblk
  show V m c main_v2 _ = V m c main_v2 _
  blk_ext [idx3 t]

/-- Window 4 is at block (0, 0) at every point. -/
theorem idx4 : ∀ t : Fin cfg0.N, win0_4.index t = ![0, 0] := (by decide +kernel : ∀ t : Fin grid0.N, win0_4.index t = ![0, 0])
/-- Operand 4 is read whole. -/
theorem iblk4_eq (t : Fin cfg0.N) : iblk m c 4 t = aR m c := by
  rw [← V_v3 m c]
  funext y
  unfold iblk
  show V m c main_v3 _ = V m c main_v3 _
  blk_ext [idx4 t]

/-- Each operand's load is the operand. -/
theorem ldX : View.ld (aX m c) r0_0 = aX m c := ld_whole (Val := Elt Ideal) (e := .bf16) (r := 256) (c := 7168) (aX m c) _
/-- Reading the whole of the weights gives the weights. -/
theorem ldW : View.ld (Val := Elt Ideal) (e' := .i8) (aW m c) r0_2 = aW m c := ld_whole (Val := Elt Ideal) (e := .i8) (r := 18432) (c := 7168) (aW m c) _
/-- Reading the whole of the weights' scales gives the weights' scales. -/
theorem ldS : View.ld (aS m c) r0_4 = aS m c := ld_whole (Val := Elt Ideal) (e := .f32) (r := 1) (c := 18432) (aS m c) _
/-- Reading the whole of the bias gives the bias. -/
theorem ldB : View.ld (aB m c) r0_4 = aB m c := ld_whole (Val := Elt Ideal) (e := .f32) (r := 1) (c := 18432) (aB m c) _
/-- Reading the whole of the residual gives the residual. -/
theorem ldR : View.ld (aR m c) r0_5 = aR m c := ld_whole (Val := Elt Ideal) (e := .bf16) (r := 256) (c := 18432) (aR m c) _

/-- Window 5 is at block (0, 0) at every point. -/
theorem idx5 : ∀ t : Fin cfg0.N, win0_5.index t = ![0, 0] := (by decide +kernel : ∀ t : Fin grid0.N, win0_5.index t = ![0, 0])
/-- The outputs. -/
theorem fin5 : (dats m 0 c).arrAt 5 cfg0.N = fun y : S256x18432.Idx => out (aX m c) (aW m c) (aS m c) (aB m c) (aR m c) (y 0) (y 1) := by
  refine (dats m 0 c).arrAt_eq_of_covers 5 _ (by decide +kernel) fun t hf y => ?_
  have e : (win0_5.blk t).view.emb y = (ix2 (y 0) (y 1) : S256x18432.Idx) := by blk_ext [idx5 t]
  blk_simp
  rw [after0_5, e, iblk0_eq, iblk1_eq, iblk2_eq, iblk3_eq, iblk4_eq]
  unfold_out out0_5
  rw [ldX, ldW, ldS, ldB, ldR]
  refine (congrFun (canon_whole (Val := Elt Ideal) (e := .bf16) (r := 256) (c := 18432) _ _ []) y).trans ?_
  exact (congrArg _ (eq_ix2 (n0 := 256) (n1 := 18432) y)).trans (pay10_apply (aX m c) (aW m c) (aS m c) (aB m c) (aR m c) (y 0) (y 1))

/-- Window 6 is at block (0, 0) at every point. -/
theorem idx6 : ∀ t : Fin cfg0.N, win0_6.index t = ![0, 0] := (by decide +kernel : ∀ t : Fin grid0.N, win0_6.index t = ![0, 0])
/-- The marks of the outlier columns. -/
theorem fin6 : (dats m 0 c).arrAt 6 cfg0.N = fun y : S1x7168.Idx => (isOut (aX m c) (y 1)).setWidth 32 := by
  refine (dats m 0 c).arrAt_eq_of_covers 6 _ (by decide +kernel) fun t hf y => ?_
  have e : (win0_6.blk t).view.emb y = (ix2 (y 0) (y 1) : S1x7168.Idx) := by blk_ext [idx6 t]
  blk_simp
  rw [after0_6, e, iblk0_eq, iblk1_eq, iblk2_eq, iblk3_eq, iblk4_eq]
  unfold_out out0_6
  rw [ldX]
  refine (congrFun (canon_whole (Val := Elt Ideal) (e := .i32) (r := 1) (c := 7168) _ _ []) y).trans ?_
  exact (congrArg _ (eq_ix2 (n0 := 1) (n1 := 7168) y)).trans (pay4_apply (aX m c) (y 0) (y 1))

/-- Window 7 is at block (0, 0) at every point. -/
theorem idx7 : ∀ t : Fin cfg0.N, win0_7.index t = ![0, 0] := (by decide +kernel : ∀ t : Fin grid0.N, win0_7.index t = ![0, 0])
/-- The codes of the activations. -/
theorem fin7 : (dats m 0 c).arrAt 7 cfg0.N = fun y : S256x7168.Idx => Ideal.fptosi 8 (xcode (aX m c) (y 0) (y 1)) := by
  refine (dats m 0 c).arrAt_eq_of_covers 7 _ (by decide +kernel) fun t hf y => ?_
  have e : (win0_7.blk t).view.emb y = (ix2 (y 0) (y 1) : S256x7168.Idx) := by blk_ext [idx7 t]
  blk_simp
  rw [after0_7, e, iblk0_eq, iblk1_eq, iblk2_eq, iblk3_eq, iblk4_eq]
  unfold_out out0_7
  rw [ldX]
  refine (congrFun (canon_whole (Val := Elt Ideal) (e := .i8) (r := 256) (c := 7168) _ _ []) y).trans ?_
  exact (congrArg _ (eq_ix2 (n0 := 256) (n1 := 7168) y)).trans (pay8_apply (aX m c) (y 0) (y 1))

/-- Window 8 is at block (0, 0) at every point. -/
theorem idx8 : ∀ t : Fin cfg0.N, win0_8.index t = ![0, 0] := (by decide +kernel : ∀ t : Fin grid0.N, win0_8.index t = ![0, 0])
/-- The scales of the activation rows. -/
theorem fin8 : (dats m 0 c).arrAt 8 cfg0.N = fun y : S256x1.Idx => xsc (aX m c) (y 0) := by
  refine (dats m 0 c).arrAt_eq_of_covers 8 _ (by decide +kernel) fun t hf y => ?_
  have e : (win0_8.blk t).view.emb y = (ix2 (y 0) (y 1) : S256x1.Idx) := by blk_ext [idx8 t]
  blk_simp
  rw [after0_8, e, iblk0_eq, iblk1_eq, iblk2_eq, iblk3_eq, iblk4_eq]
  unfold_out out0_8
  rw [ldX]
  refine (congrFun (canon_whole (Val := Elt Ideal) (e := .f32) (r := 256) (c := 1) _ _ []) y).trans ?_
  exact (congrArg _ (eq_ix2 (n0 := 256) (n1 := 1) y)).trans (pay7_apply (aX m c) (y 0) (y 1))

/-- Window 9 is at block (0, 0) at every point. -/
theorem idx9 : ∀ t : Fin cfg0.N, win0_9.index t = ![0, 0] := (by decide +kernel : ∀ t : Fin grid0.N, win0_9.index t = ![0, 0])
/-- The codes of the outputs. -/
theorem fin9 : (dats m 0 c).arrAt 9 cfg0.N = fun y : S256x18432.Idx => Ideal.fptosi 8 (ycode (aX m c) (aW m c) (aS m c) (aB m c) (aR m c) (y 0) (y 1)) := by
  refine (dats m 0 c).arrAt_eq_of_covers 9 _ (by decide +kernel) fun t hf y => ?_
  have e : (win0_9.blk t).view.emb y = (ix2 (y 0) (y 1) : S256x18432.Idx) := by blk_ext [idx9 t]
  blk_simp
  rw [after0_9, e, iblk0_eq, iblk1_eq, iblk2_eq, iblk3_eq, iblk4_eq]
  unfold_out out0_9
  rw [ldX, ldW, ldS, ldB, ldR]
  refine (congrFun (canon_whole (Val := Elt Ideal) (e := .i8) (r := 256) (c := 18432) _ _ []) y).trans ?_
  exact (congrArg _ (eq_ix2 (n0 := 256) (n1 := 18432) y)).trans (pay13_apply (aX m c) (aW m c) (aS m c) (aB m c) (aR m c) (y 0) (y 1))

/-- Window 10 is at block (0, 0) at every point. -/
theorem idx10 : ∀ t : Fin cfg0.N, win0_10.index t = ![0, 0] := (by decide +kernel : ∀ t : Fin grid0.N, win0_10.index t = ![0, 0])
/-- The scales of the output rows. -/
theorem fin10 : (dats m 0 c).arrAt 10 cfg0.N = fun y : S256x1.Idx => ysc (aX m c) (aW m c) (aS m c) (aB m c) (aR m c) (y 0) := by
  refine (dats m 0 c).arrAt_eq_of_covers 10 _ (by decide +kernel) fun t hf y => ?_
  have e : (win0_10.blk t).view.emb y = (ix2 (y 0) (y 1) : S256x1.Idx) := by blk_ext [idx10 t]
  blk_simp
  rw [after0_10, e, iblk0_eq, iblk1_eq, iblk2_eq, iblk3_eq, iblk4_eq]
  unfold_out out0_10
  rw [ldX, ldW, ldS, ldB, ldR]
  refine (congrFun (canon_whole (Val := Elt Ideal) (e := .f32) (r := 256) (c := 1) _ _ []) y).trans ?_
  exact (congrArg _ (eq_ix2 (n0 := 256) (n1 := 1) y)).trans (pay12_apply (aX m c) (aW m c) (aS m c) (aB m c) (aR m c) (y 0) (y 1))

end Cert.RefAlg

end
-- ==== Proof.Algebra.Main.lean ====
/- The idealised kernel and the reference, started on the same arguments, end with the same six results. -/
module

public import proofs.«01_k».proof.Defs
public import proofs.«01_k».proof.Proof.Algebra.KerRun
public import proofs.«01_k».proof.Proof.Algebra.RefRun

@[expose] public section

set_option maxRecDepth 16384

noncomputable section

namespace Cert.Algebra

open Idealize.ShloMosaic Idealize.SL.Sem

/-- From every state the kernel's run ends with its six result arrays equal to the specification of its arguments. -/
theorem kernel_run (m : (ℓ : Loc KernelIdeal.nD KernelIdeal.τ KernelIdeal.sig) → Buf (Elt Ideal) ℓ) (ρ : Dev KernelIdeal.nD → PrngReg) :
    θ_run KernelIdeal.defs (onTc (τ := KernelIdeal.τ) (KernelIdeal.main (F := Ideal))) ⟨m, fun _ => 0, ρ⟩ (fun r => ∀ c : Dev KernelIdeal.nD,
      (r.2.mem ((c.tc : Thread KernelIdeal.nD KernelIdeal.τ).loc KernelIdeal.main_v4_0) = (KernelIdeal.Gen.dats m 0 c).arrAt 5 KernelIdeal.cfg0.N
      ∧ r.2.mem ((c.tc : Thread KernelIdeal.nD KernelIdeal.τ).loc KernelIdeal.main_v4_1) = (KernelIdeal.Gen.dats m 0 c).arrAt 6 KernelIdeal.cfg0.N
      ∧ r.2.mem ((c.tc : Thread KernelIdeal.nD KernelIdeal.τ).loc KernelIdeal.main_v4_2) = (KernelIdeal.Gen.dats m 0 c).arrAt 7 KernelIdeal.cfg0.N
      ∧ r.2.mem ((c.tc : Thread KernelIdeal.nD KernelIdeal.τ).loc KernelIdeal.main_v4_3) = (KernelIdeal.Gen.dats m 0 c).arrAt 8 KernelIdeal.cfg0.N
      ∧ r.2.mem ((c.tc : Thread KernelIdeal.nD KernelIdeal.τ).loc KernelIdeal.main_v4_4) = (KernelIdeal.Gen.dats m 0 c).arrAt 9 KernelIdeal.cfg0.N
      ∧ r.2.mem ((c.tc : Thread KernelIdeal.nD KernelIdeal.τ).loc KernelIdeal.main_v4_5) = (KernelIdeal.Gen.dats m 0 c).arrAt 10 KernelIdeal.cfg0.N)
      ∧ (r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4))) :=
  (θ_run KernelIdeal.defs _ _).mono (fun _ h c => ⟨⟨(h.1 c).1 5, (h.1 c).1 6, (h.1 c).1 7, (h.1 c).1 8, (h.1 c).1 9, (h.1 c).1 10⟩, h.2.1 c⟩)
    (θ_run_and (KernelIdeal.Gen.run_main m ρ) (KernelIdeal.Gen.frame m ρ))

/-- The same of the reference's run. -/
theorem reference_run (m : (ℓ : Loc ReferenceIdeal.nD ReferenceIdeal.τ ReferenceIdeal.sig) → Buf (Elt Ideal) ℓ) (ρ : Dev ReferenceIdeal.nD → PrngReg) :
    θ_run ReferenceIdeal.defs (onTc (τ := ReferenceIdeal.τ) (ReferenceIdeal.main (F := Ideal))) ⟨m, fun _ => 0, ρ⟩ (fun r => ∀ c : Dev ReferenceIdeal.nD,
      (r.2.mem ((c.tc : Thread ReferenceIdeal.nD ReferenceIdeal.τ).loc ReferenceIdeal.main_v4_0) = (ReferenceIdeal.Gen.dats m 0 c).arrAt 5 ReferenceIdeal.cfg0.N
      ∧ r.2.mem ((c.tc : Thread ReferenceIdeal.nD ReferenceIdeal.τ).loc ReferenceIdeal.main_v4_1) = (ReferenceIdeal.Gen.dats m 0 c).arrAt 6 ReferenceIdeal.cfg0.N
      ∧ r.2.mem ((c.tc : Thread ReferenceIdeal.nD ReferenceIdeal.τ).loc ReferenceIdeal.main_v4_2) = (ReferenceIdeal.Gen.dats m 0 c).arrAt 7 ReferenceIdeal.cfg0.N
      ∧ r.2.mem ((c.tc : Thread ReferenceIdeal.nD ReferenceIdeal.τ).loc ReferenceIdeal.main_v4_3) = (ReferenceIdeal.Gen.dats m 0 c).arrAt 8 ReferenceIdeal.cfg0.N
      ∧ r.2.mem ((c.tc : Thread ReferenceIdeal.nD ReferenceIdeal.τ).loc ReferenceIdeal.main_v4_4) = (ReferenceIdeal.Gen.dats m 0 c).arrAt 9 ReferenceIdeal.cfg0.N
      ∧ r.2.mem ((c.tc : Thread ReferenceIdeal.nD ReferenceIdeal.τ).loc ReferenceIdeal.main_v4_5) = (ReferenceIdeal.Gen.dats m 0 c).arrAt 10 ReferenceIdeal.cfg0.N)
      ∧ (r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4))) :=
  (θ_run ReferenceIdeal.defs _ _).mono (fun _ h c => ⟨⟨(h.1 c).1 5, (h.1 c).1 6, (h.1 c).1 7, (h.1 c).1 8, (h.1 c).1 9, (h.1 c).1 10⟩, h.2.1 c⟩)
    (θ_run_and (ReferenceIdeal.Gen.run_main m ρ) (ReferenceIdeal.Gen.frame m ρ))

section Same
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- On equal arguments both programs read equal activations. -/
theorem same_aX (h : m' ((c.tc : Thread ReferenceIdeal.nD ReferenceIdeal.τ).loc ReferenceIdeal.main_arg0) = m ((c.tc : Thread KernelIdeal.nD KernelIdeal.τ).loc KernelIdeal.main_arg0)) :
    RefAlg.aX m' c = KerAlg.aX m c := by unfold RefAlg.aX KerAlg.aX; rw [h]
/-- On equal arguments both programs read equal weights. -/
theorem same_aW (h : m' ((c.tc : Thread ReferenceIdeal.nD ReferenceIdeal.τ).loc ReferenceIdeal.main_arg1) = m ((c.tc : Thread KernelIdeal.nD KernelIdeal.τ).loc KernelIdeal.main_arg1)) :
    RefAlg.aW m' c = KerAlg.aW m c := h
/-- On equal arguments both programs read equal weights' scales. -/
theorem same_aS (h : m' ((c.tc : Thread ReferenceIdeal.nD ReferenceIdeal.τ).loc ReferenceIdeal.main_arg2) = m ((c.tc : Thread KernelIdeal.nD KernelIdeal.τ).loc KernelIdeal.main_arg2)) :
    RefAlg.aS m' c = KerAlg.aS m c := by unfold RefAlg.aS KerAlg.aS; rw [h]
/-- On equal arguments both programs read equal biases. -/
theorem same_aB (h : m' ((c.tc : Thread ReferenceIdeal.nD ReferenceIdeal.τ).loc ReferenceIdeal.main_arg3) = m ((c.tc : Thread KernelIdeal.nD KernelIdeal.τ).loc KernelIdeal.main_arg3)) :
    RefAlg.aB m' c = KerAlg.aB m c := by unfold RefAlg.aB KerAlg.aB; rw [h]
/-- On equal arguments both programs read equal residuals. -/
theorem same_aR (h : m' ((c.tc : Thread ReferenceIdeal.nD ReferenceIdeal.τ).loc ReferenceIdeal.main_arg4) = m ((c.tc : Thread KernelIdeal.nD KernelIdeal.τ).loc KernelIdeal.main_arg4)) :
    RefAlg.aR m' c = KerAlg.aR m c := by unfold RefAlg.aR KerAlg.aR; rw [h]
end Same

/-- The value claim: on the same arguments the idealised kernel and the reference end with the same six results. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => (KernelIdeal.Gen.dats m 0 c).arrAt 5 KernelIdeal.cfg0.N, fun c => (KernelIdeal.Gen.dats m 0 c).arrAt 6 KernelIdeal.cfg0.N,
    fun c => (KernelIdeal.Gen.dats m 0 c).arrAt 7 KernelIdeal.cfg0.N, fun c => (KernelIdeal.Gen.dats m 0 c).arrAt 8 KernelIdeal.cfg0.N,
    fun c => (KernelIdeal.Gen.dats m 0 c).arrAt 9 KernelIdeal.cfg0.N, fun c => (KernelIdeal.Gen.dats m 0 c).arrAt 10 KernelIdeal.cfg0.N,
    (θ_run KernelIdeal.defs _ _).mono (fun r h c => ?_) (kernel_run m g), (θ_run ReferenceIdeal.defs _ _).mono (fun r h c => ?_) (reference_run m' g')⟩
  · obtain ⟨⟨h0, h1, h2, h3, h4, h5⟩, ha⟩ := h c
    exact ⟨h0, h1, h2, h3, h4, h5, ha⟩
  · obtain ⟨⟨h0, h1, h2, h3, h4, h5⟩, ha⟩ := h c
    obtain ⟨e0, e1, e2, e3, e4⟩ := hargs c
    have eX := same_aX m m' c e0
    have eW := same_aW m m' c e1
    have eS := same_aS m m' c e2
    have eB := same_aB m m' c e3
    have eR := same_aR m m' c e4
    refine ⟨h0.trans ?_, h1.trans ?_, h2.trans ?_, h3.trans ?_, h4.trans ?_, h5.trans ?_, ha⟩
    · refine (RefAlg.fin5 m' c).trans (Eq.trans ?_ (KerAlg.fin5 m c).symm)
      rw [eX, eW, eS, eB, eR]
    · refine (RefAlg.fin6 m' c).trans (Eq.trans ?_ (KerAlg.fin6 m c).symm)
      rw [eX]
    · refine (RefAlg.fin7 m' c).trans (Eq.trans ?_ (KerAlg.fin7 m c).symm)
      rw [eX]
    · refine (RefAlg.fin8 m' c).trans (Eq.trans ?_ (KerAlg.fin8 m c).symm)
      rw [eX]
    · refine (RefAlg.fin9 m' c).trans (Eq.trans ?_ (KerAlg.fin9 m c).symm)
      rw [eX, eW, eS, eB, eR]
    · refine (RefAlg.fin10 m' c).trans (Eq.trans ?_ (KerAlg.fin10 m c).symm)
      rw [eX, eW, eS, eB, eR]

end Cert.Algebra

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Frame
public import proofs.«01_k».proof.Proof.KernelIdeal.Frame
public import proofs.«01_k».proof.Proof.Algebra.Main
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Cert.Algebra.algebraic⟩

end Cert.Proof

end
